-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S100000x128 : Shape := ⟨2, ![100000, 128]⟩
abbrev S400000 : Shape := ⟨1, ![400000]⟩
abbrev S100000 : Shape := ⟨1, ![100000]⟩
abbrev S_ : Shape := ⟨0, ![]⟩

class Facts : Prop where
  bcast_S_S400000 : S_.BroadcastsInDim S400000 (![] : Fin 0 → Fin S400000.rank)
  reducesTo_S400000_S_d0 : S400000.ReducesTo [0] S_
  h_S_ : 0 < S_.numel
  reducesTo_S100000_S_d0 : S100000.ReducesTo [0] S_

variable [Facts]

def fn {F : FTy → Type} [FloatOps F] (main_arg0 : FVec F S100000x128 .f32) (main_arg1 : IVec S400000 32) (main_arg2 : IVec S100000 32) : IVec S_ 1 :=
  let main_c : IVec S_ 32 := constantI S_ 32 0#32
  let main_v0 : IVec S400000 32 := broadcastInDim S400000 ![] bcast_S_S400000 main_c
  let main_v1 : IVec S400000 1 := cmpi .sge main_arg1 main_v0
  let main_c_0 : IVec S_ 32 := constantI S_ 32 400000#32
  let main_v2 : IVec S400000 32 := broadcastInDim S400000 ![] bcast_S_S400000 main_c_0
  let main_v3 : IVec S400000 1 := cmpi .slt main_arg1 main_v2
  let main_v4 : IVec S400000 1 := andi main_v1 main_v3
  let main_c_1 : IVec S_ 1 := constantI S_ 1 1#1
  let main_v5 : IVec S_ 1 := (fun x v => Host.reduce IntOp.andi x v reducesTo_S400000_S_d0 h_S_) main_v4 main_c_1
  let main_v6 : IVec S100000 32 := iotaInDim S100000 32 0
  let main_v7 : IVec S100000 1 := cmpi .eq main_arg2 main_v6
  let main_c_2 : IVec S_ 1 := constantI S_ 1 1#1
  let main_v8 : IVec S_ 1 := (fun x v => Host.reduce IntOp.andi x v reducesTo_S100000_S_d0 h_S_) main_v7 main_c_2
  let main_v9 : IVec S_ 1 := andi main_v5 main_v8
  main_v9
-- ==== Kernel.lean ====
abbrev S100000x128 : Shape := ⟨2, ![100000, 128]⟩
abbrev S400000 : Shape := ⟨1, ![400000]⟩
abbrev S100000 : Shape := ⟨1, ![100000]⟩
abbrev S400000x128 : Shape := ⟨2, ![400000, 128]⟩
abbrev S12544 : Shape := ⟨1, ![12544]⟩
abbrev S7x128x128 : Shape := ⟨3, ![7, 128, 128]⟩
abbrev S_ : Shape := ⟨0, ![]⟩
abbrev S11136 : Shape := ⟨1, ![11136]⟩
abbrev S16 : Shape := ⟨1, ![16]⟩
abbrev S1x128x128 : Shape := ⟨3, ![1, 128, 128]⟩
abbrev S128x128 : Shape := ⟨2, ![128, 128]⟩
abbrev S128 : Shape := ⟨1, ![128]⟩

abbrev nBuf : Table → Nat
  | .hbm => 4
  | .local .scVector .vmem => 2
  | _ => 0

abbrev bufTy : (tb : Table) → Fin (nBuf tb) → BufTy
  | .hbm, ⟨0, _⟩ => ⟨S100000x128, .f32⟩
  | .hbm, ⟨1, _⟩ => ⟨S400000, .i32⟩
  | .hbm, ⟨2, _⟩ => ⟨S100000, .i32⟩
  | .hbm, ⟨3, _⟩ => ⟨S400000x128, .f32⟩
  | .local .scVector .vmem, ⟨0, _⟩ => ⟨S12544, .i32⟩
  | .local .scVector .vmem, ⟨1, _⟩ => ⟨S7x128x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v6 : BitVec 1 := Scalar.cmpi .slt v1 c31_i32
  let v7 : BitVec 32 := Scalar.extui v6
  let c0_i32 : BitVec 32 := 0#32
  let v8 : BitVec 1 := Scalar.cmpi .ne v7 c0_i32
  v8

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c128_i32 : BitVec 32 := 128#32
  let v3 : BitVec 32 := Scalar.muli v2 c128_i32
  ![v3.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_1 : BitVec 32 := 31#32
  let v9 : BitVec 1 := Scalar.cmpi .eq v1 c31_i32_1
  let v10 : BitVec 32 := Scalar.extui v9
  let c0_i32_2 : BitVec 32 := 0#32
  let v11 : BitVec 1 := Scalar.cmpi .ne v10 c0_i32_2
  v11

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c128_i32 : BitVec 32 := 128#32
  let v3 : BitVec 32 := Scalar.muli v2 c128_i32
  ![v3.toNat]
@[reducible] def k0_t1_loop : Scf.Loop 32 :=
  let c0_i32_4 : BitVec 32 := 0#32
  let c15_i32 : BitVec 32 := 15#32
  let v12 : BitVec 32 := Scalar.addi c0_i32_4 c15_i32
  let c1_i32 : BitVec 32 := 1#32
  ⟨c0_i32_4, v12, c1_i32⟩
def k0_cond3 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v57 : BitVec 1 := Scalar.cmpi .slt v56 v5
  let v58 : BitVec 32 := Scalar.extui v57
  let c0_i32_66 : BitVec 32 := 0#32
  let v59 : BitVec 1 := Scalar.cmpi .ne v58 c0_i32_66
  v59

def k0_off3 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c128_i32_106 : BitVec 32 := 128#32
  let v132 : BitVec 32 := Scalar.muli v56 c128_i32_106
  let v133 : BitVec 32 := Scalar.addi v132 c0_i32_107
  let v134 : Index := Scalar.indexCast v133
  ![v134.toNat]
def k0_cond4 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c7_i32_146 : BitVec 32 := 7#32
  let v252 : BitVec 1 := Scalar.cmpi .sge v56 c7_i32_146
  let v253 : BitVec 32 := Scalar.extui v252
  let c0_i32_147 : BitVec 32 := 0#32
  let v254 : BitVec 1 := Scalar.cmpi .ne v253 c0_i32_147
  v254

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let v260 : BitVec 32 := Scalar.addi v2 v56
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off5 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c128_i32_148 : BitVec 32 := 128#32
  let v255 : BitVec 32 := Scalar.muli v56 c128_i32_148
  ![v255.toNat]
def k0_cond5 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c6_i32_67 : BitVec 32 := 6#32
  let v60 : BitVec 32 := Scalar.subi v56 c6_i32_67
  let c0_i32_68 : BitVec 32 := 0#32
  let v61 : BitVec 1 := Scalar.cmpi .sge v60 c0_i32_68
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v62 : BitVec 1 := Scalar.cmpi .slt v60 v5
  let v63 : BitVec 1 := Scalar.andi v61 v62
  let v64 : BitVec 32 := Scalar.extui v63
  let c0_i32_69 : BitVec 32 := 0#32
  let v65 : BitVec 1 := Scalar.cmpi .ne v64 c0_i32_69
  v65

def k0_off6 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c6_i32_67 : BitVec 32 := 6#32
  let v60 : BitVec 32 := Scalar.subi v56 c6_i32_67
  let c128_i32_106 : BitVec 32 := 128#32
  let v132 : BitVec 32 := Scalar.muli v60 c128_i32_106
  ![v132.toNat]
def k0_off7 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32 : BitVec 32 := 7#32
  let v55 : BitVec 32 := Scalar.muli arg21 c7_i32
  let c0_i32_65 : BitVec 32 := 0#32
  let v56 : BitVec 32 := Scalar.addi v55 c0_i32_65
  let c6_i32_67 : BitVec 32 := 6#32
  let v60 : BitVec 32 := Scalar.subi v56 c6_i32_67
  let v137 : BitVec 32 := Scalar.addi v2 v60
  let c128_i32_112 : BitVec 32 := 128#32
  let v138 : BitVec 32 := Scalar.muli v137 c128_i32_112
  let c0_i32_116 : BitVec 32 := 0#32
  ![v138.toNat, 0]
def k0_cond6 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v68 : BitVec 1 := Scalar.cmpi .slt v67 v5
  let v69 : BitVec 32 := Scalar.extui v68
  let c0_i32_72 : BitVec 32 := 0#32
  let v70 : BitVec 1 := Scalar.cmpi .ne v69 c0_i32_72
  v70

def k0_off8 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c128_i32_106 : BitVec 32 := 128#32
  let v132 : BitVec 32 := Scalar.muli v67 c128_i32_106
  let v133 : BitVec 32 := Scalar.addi v132 c0_i32_107
  let v134 : Index := Scalar.indexCast v133
  ![v134.toNat]
def k0_cond7 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c7_i32_146 : BitVec 32 := 7#32
  let v252 : BitVec 1 := Scalar.cmpi .sge v67 c7_i32_146
  let v253 : BitVec 32 := Scalar.extui v252
  let c0_i32_147 : BitVec 32 := 0#32
  let v254 : BitVec 1 := Scalar.cmpi .ne v253 c0_i32_147
  v254

def k0_off9 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let v260 : BitVec 32 := Scalar.addi v2 v67
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off10 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c128_i32_148 : BitVec 32 := 128#32
  let v255 : BitVec 32 := Scalar.muli v67 c128_i32_148
  ![v255.toNat]
def k0_cond8 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c6_i32_73 : BitVec 32 := 6#32
  let v71 : BitVec 32 := Scalar.subi v67 c6_i32_73
  let c0_i32_74 : BitVec 32 := 0#32
  let v72 : BitVec 1 := Scalar.cmpi .sge v71 c0_i32_74
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v73 : BitVec 1 := Scalar.cmpi .slt v71 v5
  let v74 : BitVec 1 := Scalar.andi v72 v73
  let v75 : BitVec 32 := Scalar.extui v74
  let c0_i32_75 : BitVec 32 := 0#32
  let v76 : BitVec 1 := Scalar.cmpi .ne v75 c0_i32_75
  v76

def k0_off11 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c6_i32_73 : BitVec 32 := 6#32
  let v71 : BitVec 32 := Scalar.subi v67 c6_i32_73
  let c128_i32_106 : BitVec 32 := 128#32
  let v132 : BitVec 32 := Scalar.muli v71 c128_i32_106
  ![v132.toNat]
def k0_off12 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_70 : BitVec 32 := 7#32
  let v66 : BitVec 32 := Scalar.muli arg21 c7_i32_70
  let c1_i32_71 : BitVec 32 := 1#32
  let v67 : BitVec 32 := Scalar.addi v66 c1_i32_71
  let c6_i32_73 : BitVec 32 := 6#32
  let v71 : BitVec 32 := Scalar.subi v67 c6_i32_73
  let v137 : BitVec 32 := Scalar.addi v2 v71
  let c128_i32_112 : BitVec 32 := 128#32
  let v138 : BitVec 32 := Scalar.muli v137 c128_i32_112
  let c0_i32_116 : BitVec 32 := 0#32
  ![v138.toNat, 0]
def k0_cond9 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v79 : BitVec 1 := Scalar.cmpi .slt v78 v5
  let v80 : BitVec 32 := Scalar.extui v79
  let c0_i32_78 : BitVec 32 := 0#32
  let v81 : BitVec 1 := Scalar.cmpi .ne v80 c0_i32_78
  v81

def k0_off13 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c128_i32_106 : BitVec 32 := 128#32
  let v132 : BitVec 32 := Scalar.muli v78 c128_i32_106
  let v133 : BitVec 32 := Scalar.addi v132 c0_i32_107
  let v134 : Index := Scalar.indexCast v133
  ![v134.toNat]
def k0_cond10 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c7_i32_146 : BitVec 32 := 7#32
  let v252 : BitVec 1 := Scalar.cmpi .sge v78 c7_i32_146
  let v253 : BitVec 32 := Scalar.extui v252
  let c0_i32_147 : BitVec 32 := 0#32
  let v254 : BitVec 1 := Scalar.cmpi .ne v253 c0_i32_147
  v254

def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let v260 : BitVec 32 := Scalar.addi v2 v78
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off15 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c128_i32_148 : BitVec 32 := 128#32
  let v255 : BitVec 32 := Scalar.muli v78 c128_i32_148
  ![v255.toNat]
def k0_cond11 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c6_i32_79 : BitVec 32 := 6#32
  let v82 : BitVec 32 := Scalar.subi v78 c6_i32_79
  let c0_i32_80 : BitVec 32 := 0#32
  let v83 : BitVec 1 := Scalar.cmpi .sge v82 c0_i32_80
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v84 : BitVec 1 := Scalar.cmpi .slt v82 v5
  let v85 : BitVec 1 := Scalar.andi v83 v84
  let v86 : BitVec 32 := Scalar.extui v85
  let c0_i32_81 : BitVec 32 := 0#32
  let v87 : BitVec 1 := Scalar.cmpi .ne v86 c0_i32_81
  v87

def k0_off16 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c6_i32_79 : BitVec 32 := 6#32
  let v82 : BitVec 32 := Scalar.subi v78 c6_i32_79
  let c128_i32_106 : BitVec 32 := 128#32
  let v132 : BitVec 32 := Scalar.muli v82 c128_i32_106
  ![v132.toNat]
def k0_off17 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_76 : BitVec 32 := 7#32
  let v77 : BitVec 32 := Scalar.muli arg21 c7_i32_76
  let c2_i32_77 : BitVec 32 := 2#32
  let v78 : BitVec 32 := Scalar.addi v77 c2_i32_77
  let c6_i32_79 : BitVec 32 := 6#32
  let v82 : BitVec 32 := Scalar.subi v78 c6_i32_79
  let v137 : BitVec 32 := Scalar.addi v2 v82
  let c128_i32_112 : BitVec 32 := 128#32
  let v138 : BitVec 32 := Scalar.muli v137 c128_i32_112
  let c0_i32_116 : BitVec 32 := 0#32
  ![v138.toNat, 0]
def k0_cond12 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v90 : BitVec 1 := Scalar.cmpi .slt v89 v5
  let v91 : BitVec 32 := Scalar.extui v90
  let c0_i32_84 : BitVec 32 := 0#32
  let v92 : BitVec 1 := Scalar.cmpi .ne v91 c0_i32_84
  v92

def k0_off18 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c128_i32_106 : BitVec 32 := 128#32
  let v132 : BitVec 32 := Scalar.muli v89 c128_i32_106
  let v133 : BitVec 32 := Scalar.addi v132 c0_i32_107
  let v134 : Index := Scalar.indexCast v133
  ![v134.toNat]
def k0_cond13 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c7_i32_146 : BitVec 32 := 7#32
  let v252 : BitVec 1 := Scalar.cmpi .sge v89 c7_i32_146
  let v253 : BitVec 32 := Scalar.extui v252
  let c0_i32_147 : BitVec 32 := 0#32
  let v254 : BitVec 1 := Scalar.cmpi .ne v253 c0_i32_147
  v254

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let v260 : BitVec 32 := Scalar.addi v2 v89
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off20 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c128_i32_148 : BitVec 32 := 128#32
  let v255 : BitVec 32 := Scalar.muli v89 c128_i32_148
  ![v255.toNat]
def k0_cond14 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c6_i32_85 : BitVec 32 := 6#32
  let v93 : BitVec 32 := Scalar.subi v89 c6_i32_85
  let c0_i32_86 : BitVec 32 := 0#32
  let v94 : BitVec 1 := Scalar.cmpi .sge v93 c0_i32_86
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v95 : BitVec 1 := Scalar.cmpi .slt v93 v5
  let v96 : BitVec 1 := Scalar.andi v94 v95
  let v97 : BitVec 32 := Scalar.extui v96
  let c0_i32_87 : BitVec 32 := 0#32
  let v98 : BitVec 1 := Scalar.cmpi .ne v97 c0_i32_87
  v98

def k0_off21 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c6_i32_85 : BitVec 32 := 6#32
  let v93 : BitVec 32 := Scalar.subi v89 c6_i32_85
  let c128_i32_106 : BitVec 32 := 128#32
  let v132 : BitVec 32 := Scalar.muli v93 c128_i32_106
  ![v132.toNat]
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_82 : BitVec 32 := 7#32
  let v88 : BitVec 32 := Scalar.muli arg21 c7_i32_82
  let c3_i32_83 : BitVec 32 := 3#32
  let v89 : BitVec 32 := Scalar.addi v88 c3_i32_83
  let c6_i32_85 : BitVec 32 := 6#32
  let v93 : BitVec 32 := Scalar.subi v89 c6_i32_85
  let v137 : BitVec 32 := Scalar.addi v2 v93
  let c128_i32_112 : BitVec 32 := 128#32
  let v138 : BitVec 32 := Scalar.muli v137 c128_i32_112
  let c0_i32_116 : BitVec 32 := 0#32
  ![v138.toNat, 0]
def k0_cond15 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v101 : BitVec 1 := Scalar.cmpi .slt v100 v5
  let v102 : BitVec 32 := Scalar.extui v101
  let c0_i32_90 : BitVec 32 := 0#32
  let v103 : BitVec 1 := Scalar.cmpi .ne v102 c0_i32_90
  v103

def k0_off23 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c128_i32_106 : BitVec 32 := 128#32
  let v132 : BitVec 32 := Scalar.muli v100 c128_i32_106
  let v133 : BitVec 32 := Scalar.addi v132 c0_i32_107
  let v134 : Index := Scalar.indexCast v133
  ![v134.toNat]
def k0_cond16 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c7_i32_146 : BitVec 32 := 7#32
  let v252 : BitVec 1 := Scalar.cmpi .sge v100 c7_i32_146
  let v253 : BitVec 32 := Scalar.extui v252
  let c0_i32_147 : BitVec 32 := 0#32
  let v254 : BitVec 1 := Scalar.cmpi .ne v253 c0_i32_147
  v254

def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let v260 : BitVec 32 := Scalar.addi v2 v100
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off25 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c128_i32_148 : BitVec 32 := 128#32
  let v255 : BitVec 32 := Scalar.muli v100 c128_i32_148
  ![v255.toNat]
def k0_cond17 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c6_i32_91 : BitVec 32 := 6#32
  let v104 : BitVec 32 := Scalar.subi v100 c6_i32_91
  let c0_i32_92 : BitVec 32 := 0#32
  let v105 : BitVec 1 := Scalar.cmpi .sge v104 c0_i32_92
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v106 : BitVec 1 := Scalar.cmpi .slt v104 v5
  let v107 : BitVec 1 := Scalar.andi v105 v106
  let v108 : BitVec 32 := Scalar.extui v107
  let c0_i32_93 : BitVec 32 := 0#32
  let v109 : BitVec 1 := Scalar.cmpi .ne v108 c0_i32_93
  v109

def k0_off26 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c6_i32_91 : BitVec 32 := 6#32
  let v104 : BitVec 32 := Scalar.subi v100 c6_i32_91
  let c128_i32_106 : BitVec 32 := 128#32
  let v132 : BitVec 32 := Scalar.muli v104 c128_i32_106
  ![v132.toNat]
def k0_off27 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_88 : BitVec 32 := 7#32
  let v99 : BitVec 32 := Scalar.muli arg21 c7_i32_88
  let c4_i32_89 : BitVec 32 := 4#32
  let v100 : BitVec 32 := Scalar.addi v99 c4_i32_89
  let c6_i32_91 : BitVec 32 := 6#32
  let v104 : BitVec 32 := Scalar.subi v100 c6_i32_91
  let v137 : BitVec 32 := Scalar.addi v2 v104
  let c128_i32_112 : BitVec 32 := 128#32
  let v138 : BitVec 32 := Scalar.muli v137 c128_i32_112
  let c0_i32_116 : BitVec 32 := 0#32
  ![v138.toNat, 0]
def k0_cond18 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v112 : BitVec 1 := Scalar.cmpi .slt v111 v5
  let v113 : BitVec 32 := Scalar.extui v112
  let c0_i32_96 : BitVec 32 := 0#32
  let v114 : BitVec 1 := Scalar.cmpi .ne v113 c0_i32_96
  v114

def k0_off28 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c128_i32_106 : BitVec 32 := 128#32
  let v132 : BitVec 32 := Scalar.muli v111 c128_i32_106
  let v133 : BitVec 32 := Scalar.addi v132 c0_i32_107
  let v134 : Index := Scalar.indexCast v133
  ![v134.toNat]
def k0_cond19 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c7_i32_146 : BitVec 32 := 7#32
  let v252 : BitVec 1 := Scalar.cmpi .sge v111 c7_i32_146
  let v253 : BitVec 32 := Scalar.extui v252
  let c0_i32_147 : BitVec 32 := 0#32
  let v254 : BitVec 1 := Scalar.cmpi .ne v253 c0_i32_147
  v254

def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let v260 : BitVec 32 := Scalar.addi v2 v111
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off30 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c128_i32_148 : BitVec 32 := 128#32
  let v255 : BitVec 32 := Scalar.muli v111 c128_i32_148
  ![v255.toNat]
def k0_cond20 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c6_i32_97 : BitVec 32 := 6#32
  let v115 : BitVec 32 := Scalar.subi v111 c6_i32_97
  let c0_i32_98 : BitVec 32 := 0#32
  let v116 : BitVec 1 := Scalar.cmpi .sge v115 c0_i32_98
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v117 : BitVec 1 := Scalar.cmpi .slt v115 v5
  let v118 : BitVec 1 := Scalar.andi v116 v117
  let v119 : BitVec 32 := Scalar.extui v118
  let c0_i32_99 : BitVec 32 := 0#32
  let v120 : BitVec 1 := Scalar.cmpi .ne v119 c0_i32_99
  v120

def k0_off31 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c6_i32_97 : BitVec 32 := 6#32
  let v115 : BitVec 32 := Scalar.subi v111 c6_i32_97
  let c128_i32_106 : BitVec 32 := 128#32
  let v132 : BitVec 32 := Scalar.muli v115 c128_i32_106
  ![v132.toNat]
def k0_off32 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_94 : BitVec 32 := 7#32
  let v110 : BitVec 32 := Scalar.muli arg21 c7_i32_94
  let c5_i32_95 : BitVec 32 := 5#32
  let v111 : BitVec 32 := Scalar.addi v110 c5_i32_95
  let c6_i32_97 : BitVec 32 := 6#32
  let v115 : BitVec 32 := Scalar.subi v111 c6_i32_97
  let v137 : BitVec 32 := Scalar.addi v2 v115
  let c128_i32_112 : BitVec 32 := 128#32
  let v138 : BitVec 32 := Scalar.muli v137 c128_i32_112
  let c0_i32_116 : BitVec 32 := 0#32
  ![v138.toNat, 0]
def k0_cond21 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v123 : BitVec 1 := Scalar.cmpi .slt v122 v5
  let v124 : BitVec 32 := Scalar.extui v123
  let c0_i32_102 : BitVec 32 := 0#32
  let v125 : BitVec 1 := Scalar.cmpi .ne v124 c0_i32_102
  v125

def k0_off33 (k0_t1 : Fin k0_t1_loop.trips) (c0_i32_107 : BitVec 32) : Fin 1 → Nat :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c128_i32_106 : BitVec 32 := 128#32
  let v132 : BitVec 32 := Scalar.muli v122 c128_i32_106
  let v133 : BitVec 32 := Scalar.addi v132 c0_i32_107
  let v134 : Index := Scalar.indexCast v133
  ![v134.toNat]
def k0_cond22 (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c7_i32_146 : BitVec 32 := 7#32
  let v252 : BitVec 1 := Scalar.cmpi .sge v122 c7_i32_146
  let v253 : BitVec 32 := Scalar.extui v252
  let c0_i32_147 : BitVec 32 := 0#32
  let v254 : BitVec 1 := Scalar.cmpi .ne v253 c0_i32_147
  v254

def k0_off34 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let v260 : BitVec 32 := Scalar.addi v2 v122
  let c7_i32_154 : BitVec 32 := 7#32
  let v261 : BitVec 32 := Scalar.subi v260 c7_i32_154
  let c128_i32_155 : BitVec 32 := 128#32
  let v262 : BitVec 32 := Scalar.muli v261 c128_i32_155
  let c0_i32_159 : BitVec 32 := 0#32
  ![v262.toNat, 0]
def k0_off35 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c128_i32_148 : BitVec 32 := 128#32
  let v255 : BitVec 32 := Scalar.muli v122 c128_i32_148
  ![v255.toNat]
def k0_cond23 (i : grid0.Coords) (k0_t1 : Fin k0_t1_loop.trips) : BitVec 1 :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c6_i32_103 : BitVec 32 := 6#32
  let v126 : BitVec 32 := Scalar.subi v122 c6_i32_103
  let c0_i32_104 : BitVec 32 := 0#32
  let v127 : BitVec 1 := Scalar.cmpi .sge v126 c0_i32_104
  let c3125_i32 : BitVec 32 := 3125#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let v4 : BitVec 32 := Scalar.subi c3125_i32 v2
  let c98_i32_0 : BitVec 32 := 98#32
  let v5 : BitVec 32 := Scalar.minsi v4 c98_i32_0
  let v128 : BitVec 1 := Scalar.cmpi .slt v126 v5
  let v129 : BitVec 1 := Scalar.andi v127 v128
  let v130 : BitVec 32 := Scalar.extui v129
  let c0_i32_105 : BitVec 32 := 0#32
  let v131 : BitVec 1 := Scalar.cmpi .ne v130 c0_i32_105
  v131

def k0_off36 (k0_t1 : Fin k0_t1_loop.trips) : Fin 1 → Nat :=
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c6_i32_103 : BitVec 32 := 6#32
  let v126 : BitVec 32 := Scalar.subi v122 c6_i32_103
  let c128_i32_106 : BitVec 32 := 128#32
  let v132 : BitVec 32 := Scalar.muli v126 c128_i32_106
  ![v132.toNat]
def k0_off37 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c98_i32 : BitVec 32 := 98#32
  let v2 : BitVec 32 := Scalar.muli v1 c98_i32
  let c0_i32_4 : BitVec 32 := 0#32
  let c1_i32 : BitVec 32 := 1#32
  let arg21 : BitVec 32 := Scf.iv c0_i32_4 c1_i32 k0_t1
  let c7_i32_100 : BitVec 32 := 7#32
  let v121 : BitVec 32 := Scalar.muli arg21 c7_i32_100
  let c6_i32_101 : BitVec 32 := 6#32
  let v122 : BitVec 32 := Scalar.addi v121 c6_i32_101
  let c6_i32_103 : BitVec 32 := 6#32
  let v126 : BitVec 32 := Scalar.subi v122 c6_i32_103
  let v137 : BitVec 32 := Scalar.addi v2 v126
  let c128_i32_112 : BitVec 32 := 128#32
  let v138 : BitVec 32 := Scalar.muli v137 c128_i32_112
  let c0_i32_116 : BitVec 32 := 0#32
  ![v138.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S400000 : Shape := ⟨1, ![400000]⟩
abbrev S100000 : Shape := ⟨1, ![100000]⟩
abbrev S_ : Shape := ⟨0, ![]⟩
abbrev S1x100000 : Shape := ⟨2, ![1, 100000]⟩
abbrev S400000x1 : Shape := ⟨2, ![400000, 1]⟩
abbrev S400000x100000 : Shape := ⟨2, ![400000, 100000]⟩
abbrev S1 : Shape := ⟨1, ![1]⟩
abbrev S1x1 : Shape := ⟨2, ![1, 1]⟩
abbrev S400000x128 : Shape := ⟨2, ![400000, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000, .i32⟩
  | .hbm, ⟨2, _⟩ => ⟨S100000, .i32⟩
  | .hbm, ⟨3, _⟩ => ⟨S_, .i32⟩
  | .hbm, ⟨4, _⟩ => ⟨S400000, .i32⟩
  | .hbm, ⟨5, _⟩ => ⟨S400000, .i32⟩
  | .hbm, ⟨6, _⟩ => ⟨S1x100000, .i32⟩
  | .hbm, ⟨7, _⟩ => ⟨S400000x1, .i32⟩
  | .hbm, ⟨8, _⟩ => ⟨S400000x100000, .i32⟩
  | .hbm, ⟨9, _⟩ => ⟨S400000x100000, .i32⟩
  | .hbm, ⟨10, _⟩ => ⟨S400000x100000, .i1⟩
  | .hbm, ⟨11, _⟩ => ⟨S400000x100000, .i32⟩
  | .hbm, ⟨12, _⟩ => ⟨S_, .i32⟩
  | .hbm, ⟨13, _⟩ => ⟨S400000, .i32⟩
  | .hbm, ⟨14, _⟩ => ⟨S_, .i32⟩
  | .hbm, ⟨15, _⟩ => ⟨S400000, .i32⟩
  | .hbm, ⟨16, _⟩ => ⟨S400000, .i1⟩
  | .hbm, ⟨17, _⟩ => ⟨S_, .i32⟩
  | .hbm, ⟨18, _⟩ => ⟨S400000, .i32⟩
  | .hbm, ⟨19, _⟩ => ⟨S400000, .i32⟩
  | .hbm, ⟨20, _⟩ => ⟨S400000, .i32⟩
  | .hbm, ⟨21, _⟩ => ⟨S400000x1, .i32⟩
  | .hbm, ⟨22, _⟩ => ⟨S1, .i32⟩
  | .hbm, ⟨23, _⟩ => ⟨S_, .i32⟩
  | .hbm, ⟨24, _⟩ => ⟨S400000x1, .i32⟩
  | .hbm, ⟨25, _⟩ => ⟨S400000x1, .i1⟩
  | .hbm, ⟨26, _⟩ => ⟨S1x1, .i32⟩
  | .hbm, ⟨27, _⟩ => ⟨S400000x1, .i32⟩
  | .hbm, ⟨28, _⟩ => ⟨S400000x1, .i1⟩
  | .hbm, ⟨29, _⟩ => ⟨S400000x1, .i1⟩
  | .hbm, ⟨30, _⟩ => ⟨S_, .i1⟩
  | .hbm, ⟨31, _⟩ => ⟨S400000, .i1⟩
  | .hbm, ⟨32, _⟩ => ⟨S400000x128, .f32⟩
  | .hbm, ⟨33, _⟩ => ⟨S400000x128, .i1⟩
  | .hbm, ⟨34, _⟩ => ⟨S_, .f32⟩
  | .hbm, ⟨35, _⟩ => ⟨S400000x128, .f32⟩
  | .hbm, ⟨36, _⟩ => ⟨S400000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩

abbrev nD : Nat := 1
abbrev τ : Topo := Topo.v7x

variable {F : FTy → Type} [FloatOps F]
-- ==== Proof.Program.lean ====
/-
  The unpool kernel's text read as fourteen instances of two steps. A trip of the main loop runs, for each of the
  seven row slots `b`, a GATHER STEP (shift the chunk's keys to row numbers, wait until the slot is free, start the
  indirect gather into it) and a WRITE STEP (wait for an earlier chunk's gather, start copying its rows out). Here both
  steps are programs over their slot, conditions and offsets, each continued by the rest of the trip, and the printed
  trip is shown to be the chain of them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Unpool

open Cert.KernelIdeal Cert.KernelIdeal.Gen
open Idealize.ShloMosaic
open Idealize.SL Idealize.SL.Sem

variable {F : FTy → Type} [FloatOps F]

/-- A program of the tile at grid point `i`. -/
abbrev TileProg (F : FTy → Type) [FloatOps F] (i : grid0.Coords) (α : Type) : Type 1 :=
  Prog (TpuEff nD τ sig (Elt F) Λ₀ (.scVector ((i 0).castLE hcore0) ((i 1).castLE hsub0))) α

/-- The feature table, the keys, the result, the tile's key list and its seven row slots, each whole. -/
abbrev featM : Memref sig .scVector .hbm S100000x128 .f32 := Memref.whole main_arg0_scv
abbrev keysM : Memref sig .scVector .hbm S400000 .i32 := Memref.whole main_arg1_scv
abbrev outM : Memref sig .scVector .hbm S400000x128 .f32 := Memref.whole main_v0_scv
abbrev listM : Memref sig .scVector .vmem S12544 .i32 := Memref.whole cc0_scratch0
abbrev rowsM : Memref sig .scVector .vmem S7x128x128 .f32 := Memref.whole cc0_scratch1

/-- The slot's gather semaphore. -/
def gsem : Fin 7 → DmaSem sig
  | 0 => cc0_scratch2.sem | 1 => cc0_scratch3.sem | 2 => cc0_scratch4.sem | 3 => cc0_scratch5.sem
  | 4 => cc0_scratch6.sem | 5 => cc0_scratch7.sem | 6 => cc0_scratch8.sem

/-- The slot's write-back semaphore. -/
def osem : Fin 7 → DmaSem sig
  | 0 => cc0_scratch9.sem | 1 => cc0_scratch10.sem | 2 => cc0_scratch11.sem | 3 => cc0_scratch12.sem
  | 4 => cc0_scratch13.sem | 5 => cc0_scratch14.sem | 6 => cc0_scratch15.sem

theorem slot_inb (b : Fin 7) : ∀ a, (![b.val, 0, 0] : Fin 3 → Nat) a + S1x128x128.size a ≤ S7x128x128.size a := by
  revert b; decide

/-- Slot `b` of the row buffer, as a 128 by 128 array. -/
abbrev slotM (b : Fin 7) : Memref sig .scVector .vmem S128x128 .f32 :=
  (rowsM.slice (Rect.unit (s := S7x128x128) ![b.val, 0, 0] S1x128x128.size (slot_inb b)) (fun _ => rfl)).squeeze S128x128 squeezes_S1x128x128_S128x128

/-- The feature table as the gathers address it. -/
abbrev tableM : Memref sig .scVector .hbm S100000x128 .f32 :=
  featM.slice (Rect.unit (s := S100000x128) ![0, 0] S100000x128.size inb_S100000x128_S100000x128_0_0) (fun _ => rfl)

/-- 128 rows of the result from the row an offset names. -/
abbrev outAt (off : Fin 2 → Nat) (h : ∀ a, off a + S128x128.size a ≤ S400000x128.size a) : Memref sig .scVector .hbm S128x128 .f32 :=
  outM.slice (Rect.unit (s := S400000x128) off S128x128.size h) (fun _ => rfl)

/-- 128 words of the key list from the place an offset names. -/
abbrev listAt (off : Fin 1 → Nat) (h : ∀ a, off a + S128.size a ≤ S12544.size a) : Memref sig .scVector .vmem S128 .i32 :=
  listM.slice (Rect.unit (s := S12544) off S128.size h) (fun _ => rfl)

/-- Shift sixteen keys right by two, each cut off at the last row. -/
def lanePay (v : Vec F S16 .i32) : IVec S16 32 := k0_pay1 v

/-- One group of sixteen words: read them (twice, as printed), write back their row numbers. -/
def laneP (i : grid0.Coords) {α : Type} (off : Fin 1 → Nat) (h : ∀ a, off a + S16.size a ≤ S12544.size a) (rest : TileProg F i α) : TileProg F i α := do
  let v : Vec F S16 .i32 ← Prog.lift (.load listM (Rect.unit (s := S12544) off S16.size h).toLoadRect (View.loadsAt_vmem h_S16))
  let _ : Vec F S16 .i32 ← Prog.lift (.load listM (Rect.unit (s := S12544) off S16.size h).toLoadRect (View.loadsAt_vmem h_S16))
  Prog.lift (.store listM (Rect.unit (s := S12544) off S16.size h) (lanePay v) Finset.univ (View.stores_vmem_bits_univ h_S16 rfl) (.inl rfl))
  rest

/-- The eight groups of a chunk. -/
def lanesP (i : grid0.Coords) {α : Type} (off : Fin 8 → Fin 1 → Nat) (h : ∀ r a, off r a + S16.size a ≤ S12544.size a) (rest : TileProg F i α) : TileProg F i α :=
  laneP i (off 0) (h 0) <| laneP i (off 1) (h 1) <| laneP i (off 2) (h 2) <| laneP i (off 3) (h 3) <|
    laneP i (off 4) (h 4) <| laneP i (off 5) (h 5) <| laneP i (off 6) (h 6) <| laneP i (off 7) (h 7) rest

/-- Start the indirect gather of the chunk's rows into slot `b`. -/
def startGather (i : grid0.Coords) {α : Type} (b : Fin 7) (off : Fin 1 → Nat) (h : ∀ a, off a + S128.size a ≤ S12544.size a) (rest : TileProg F i α) : TileProg F i α := do
  SparseCore.enqueueIndirectGather rfl tableM (slotM b) gathers_S100000x128_S128x128 (listAt off h) rfl (gsem b) (View.wordExact_bits rfl) rfl (Or.inl rfl)
  rest

/-- Wait for a write-back on the semaphore of slot `b`. -/
def awaitOut (i : grid0.Coords) {α : Type} (b : Fin 7) (off : Fin 2 → Nat) (h : ∀ a, off a + S128x128.size a ≤ S400000x128.size a) (rest : TileProg F i α) : TileProg F i α := do
  Prog.lift (.waitDma2 (osem b) (slotM b) (outAt off h) ((View.wordExact_bits rfl).reshape _ _) (View.wordExact_bits rfl))
  rest

/-- The gather step of slot `b`. -/
def gatherP (i : grid0.Coords) {α : Type} (b : Fin 7) (c c' : BitVec 1)
    (offK : Fin 8 → Fin 1 → Nat) (hK : c = 1#1 → ∀ r a, offK r a + S16.size a ≤ S12544.size a)
    (offW : Fin 2 → Nat) (hW : c = 1#1 → c' = 1#1 → ∀ a, offW a + S128x128.size a ≤ S400000x128.size a)
    (offL : Fin 1 → Nat) (hL : c = 1#1 → ∀ a, offL a + S128.size a ≤ S12544.size a)
    (rest : TileProg F i α) : TileProg F i α :=
  if h : c = 1#1 then
    lanesP i offK (hK h) <|
      if h' : c' = 1#1 then awaitOut i b offW (hW h h') (startGather i b offL (hL h) rest)
      else startGather i b offL (hL h) rest
  else rest

/-- The write step of slot `b`. -/
def writeP (i : grid0.Coords) {α : Type} (b : Fin 7) (c : BitVec 1)
    (offO : Fin 2 → Nat) (hO : c = 1#1 → ∀ a, offO a + S128x128.size a ≤ S400000x128.size a)
    (rest : TileProg F i α) : TileProg F i α :=
  if h : c = 1#1 then do
    SparseCore.waitIndirectGather (gsem b) tableM (slotM b) (View.wordExact_bits rfl) ((View.wordExact_bits rfl).reshape _ _)
    Prog.lift (.enqueueDma (slotM b) (.here (outAt offO (hO h))) (.dma (osem b)) ((View.wordExact_bits rfl).reshape _ _) (View.wordExact_bits rfl) ⟨Or.inl rfl, trivial⟩)
    rest
  else rest

/-! ## The seven slots' conditions and offsets, as printed -/

/-- Whether the step has a chunk to gather. -/
def condG (i : grid0.Coords) (t : Fin k0_t1_loop.trips) : Fin 7 → BitVec 1
  | 0 => k0_cond3 i t
  | 1 => k0_cond6 i t
  | 2 => k0_cond9 i t
  | 3 => k0_cond12 i t
  | 4 => k0_cond15 i t
  | 5 => k0_cond18 i t
  | 6 => k0_cond21 i t

/-- Whether the slot was used before. -/
def condA (t : Fin k0_t1_loop.trips) : Fin 7 → BitVec 1
  | 0 => k0_cond4 t
  | 1 => k0_cond7 t
  | 2 => k0_cond10 t
  | 3 => k0_cond13 t
  | 4 => k0_cond16 t
  | 5 => k0_cond19 t
  | 6 => k0_cond22 t

/-- Whether the step has a chunk to write back. -/
def condW (i : grid0.Coords) (t : Fin k0_t1_loop.trips) : Fin 7 → BitVec 1
  | 0 => k0_cond5 i t
  | 1 => k0_cond8 i t
  | 2 => k0_cond11 i t
  | 3 => k0_cond14 i t
  | 4 => k0_cond17 i t
  | 5 => k0_cond20 i t
  | 6 => k0_cond23 i t

/-- Where the chunk's groups of sixteen keys begin. -/
def offK (t : Fin k0_t1_loop.trips) : Fin 7 → Fin 8 → Fin 1 → Nat
  | 0 => fun r => k0_off3 t (BitVec.ofNat 32 (16 * r.val))
  | 1 => fun r => k0_off8 t (BitVec.ofNat 32 (16 * r.val))
  | 2 => fun r => k0_off13 t (BitVec.ofNat 32 (16 * r.val))
  | 3 => fun r => k0_off18 t (BitVec.ofNat 32 (16 * r.val))
  | 4 => fun r => k0_off23 t (BitVec.ofNat 32 (16 * r.val))
  | 5 => fun r => k0_off28 t (BitVec.ofNat 32 (16 * r.val))
  | 6 => fun r => k0_off33 t (BitVec.ofNat 32 (16 * r.val))

/-- The rows the slot's earlier write-back is named by. -/
def offA (i : grid0.Coords) (t : Fin k0_t1_loop.trips) : Fin 7 → Fin 2 → Nat
  | 0 => k0_off4 i t
  | 1 => k0_off9 i t
  | 2 => k0_off14 i t
  | 3 => k0_off19 i t
  | 4 => k0_off24 i t
  | 5 => k0_off29 i t
  | 6 => k0_off34 i t

/-- Where the chunk's row numbers begin. -/
def offL (t : Fin k0_t1_loop.trips) : Fin 7 → Fin 1 → Nat
  | 0 => k0_off5 t
  | 1 => k0_off10 t
  | 2 => k0_off15 t
  | 3 => k0_off20 t
  | 4 => k0_off25 t
  | 5 => k0_off30 t
  | 6 => k0_off35 t

/-- The rows of the result the write step fills. -/
def offO (i : grid0.Coords) (t : Fin k0_t1_loop.trips) : Fin 7 → Fin 2 → Nat
  | 0 => k0_off7 i t
  | 1 => k0_off12 i t
  | 2 => k0_off17 i t
  | 3 => k0_off22 i t
  | 4 => k0_off27 i t
  | 5 => k0_off32 i t
  | 6 => k0_off37 i t

theorem offK_inb (i : grid0.Coords) (t : Fin k0_t1_loop.trips) : ∀ b : Fin 7, condG i t b = 1#1 → ∀ r a, offK t b r a + S16.size a ≤ S12544.size a
  | 0 => k0_off3_inb i t
  | 1 => k0_off8_inb i t
  | 2 => k0_off13_inb i t
  | 3 => k0_off18_inb i t
  | 4 => k0_off23_inb i t
  | 5 => k0_off28_inb i t
  | 6 => k0_off33_inb i t

theorem offA_inb (i : grid0.Coords) (t : Fin k0_t1_loop.trips) : ∀ b : Fin 7, condG i t b = 1#1 → condA t b = 1#1 → ∀ a, offA i t b a + S128x128.size a ≤ S400000x128.size a
  | 0 => k0_off4_inb i t
  | 1 => k0_off9_inb i t
  | 2 => k0_off14_inb i t
  | 3 => k0_off19_inb i t
  | 4 => k0_off24_inb i t
  | 5 => k0_off29_inb i t
  | 6 => k0_off34_inb i t

theorem offL_inb (i : grid0.Coords) (t : Fin k0_t1_loop.trips) : ∀ b : Fin 7, condG i t b = 1#1 → ∀ a, offL t b a + S128.size a ≤ S12544.size a
  | 0 => k0_off5_inb i t
  | 1 => k0_off10_inb i t
  | 2 => k0_off15_inb i t
  | 3 => k0_off20_inb i t
  | 4 => k0_off25_inb i t
  | 5 => k0_off30_inb i t
  | 6 => k0_off35_inb i t

theorem offO_inb (i : grid0.Coords) (t : Fin k0_t1_loop.trips) : ∀ b : Fin 7, condW i t b = 1#1 → ∀ a, offO i t b a + S128x128.size a ≤ S400000x128.size a
  | 0 => k0_off7_inb i t
  | 1 => k0_off12_inb i t
  | 2 => k0_off17_inb i t
  | 3 => k0_off22_inb i t
  | 4 => k0_off27_inb i t
  | 5 => k0_off32_inb i t
  | 6 => k0_off37_inb i t

/-- Step `b` of trip `t`: the gather step of slot `b`, then the write step of the slot after it. -/
def stepP (i : grid0.Coords) (t : Fin k0_t1_loop.trips) {α : Type} (b : Fin 7) (rest : TileProg F i α) : TileProg F i α :=
  gatherP i b (condG i t b) (condA t b) (offK t b) (offK_inb i t b) (offA i t b) (offA_inb i t b) (offL t b) (offL_inb i t b) <|
    writeP i (b + 1) (condW i t b) (offO i t b) (offO_inb i t b) rest

/-! ## The printed trip is the chain of its steps -/

variable (i : grid0.Coords) (t : Fin k0_t1_loop.trips) (v2 v5 c0 c1 : BitVec 32)

set_option maxRecDepth 65536 in
theorem part22_eq :
    k0_part22 (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1 v2 v5 c0 c1 t
      = (stepP i t 0 <| stepP i t 1 <| stepP i t 2 <| pure ⟨Scf.iv c0 c1 t, Scalar.muli (Scf.iv c0 c1 t) 7#32⟩) := rfl

set_option maxRecDepth 65536 in
theorem part23_eq (a v88 : BitVec 32) :
    k0_part23 (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1 v2 v5 t a v88
      = (stepP i t 3 <| stepP i t 4 <| stepP i t 5 <|
          pure ⟨Scalar.addi (Scalar.muli a 7#32) 6#32, Scalar.cmpi .slt (Scalar.addi (Scalar.muli a 7#32) 6#32) v5⟩) := rfl

set_option maxRecDepth 65536 in
/-- A trip is its seven steps. -/
theorem trip_eq (u : Unit) :
    k0_t1_body (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1 v2 v5 t u
      = ((stepP i t 0 <| stepP i t 1 <| stepP i t 2 <| pure (⟨Scf.iv 0#32 1#32 t, Scalar.muli (Scf.iv 0#32 1#32 t) 7#32⟩ : Σ' (_ : BitVec 32), BitVec 32)) >>= fun p =>
          (stepP i t 3 <| stepP i t 4 <| stepP i t 5 <|
            pure (⟨Scalar.addi (Scalar.muli p.1 7#32) 6#32, Scalar.cmpi .slt (Scalar.addi (Scalar.muli p.1 7#32) 6#32) v5⟩ : Σ' (_ : BitVec 32), BitVec 1)) >>= fun _ =>
          stepP i t 6 <| pure ⟨⟩) := rfl

/-! ## What they compute -/

/-- The tile's number, 0 to 31. -/
def wid (i : grid0.Coords) : Nat := 2 * (i 1).val + (i 0).val

/-- The number of chunks the tile has: 98, the last tile 87. -/
def nch (i : grid0.Coords) : Nat := if wid i < 31 then 98 else 87

/-- The step's number. -/
def stepNo (t : Fin k0_t1_loop.trips) (b : Fin 7) : Nat := 7 * t.val + b.val

theorem condG_iff : ∀ (i : grid0.Coords) (t : Fin k0_t1_loop.trips) (b : Fin 7), condG i t b = 1#1 ↔ stepNo t b < nch i := by decide +kernel

theorem condA_iff : ∀ (t : Fin k0_t1_loop.trips) (b : Fin 7), condA t b = 1#1 ↔ 7 ≤ stepNo t b := by decide +kernel

theorem condW_iff : ∀ (i : grid0.Coords) (t : Fin k0_t1_loop.trips) (b : Fin 7), condW i t b = 1#1 ↔ 6 ≤ stepNo t b ∧ stepNo t b - 6 < nch i := by decide +kernel

theorem offK_eq : ∀ (t : Fin k0_t1_loop.trips) (b : Fin 7) (r : Fin 8), offK t b r = ![128 * stepNo t b + 16 * r.val] := by decide +kernel

theorem offL_eq : ∀ (t : Fin k0_t1_loop.trips) (b : Fin 7), offL t b = ![128 * stepNo t b] := by decide +kernel

theorem offO_eq : ∀ (i : grid0.Coords) (t : Fin k0_t1_loop.trips) (b : Fin 7), condW i t b = 1#1 →
    offO i t b = ![12544 * wid i + 128 * (stepNo t b - 6), 0] := by decide +kernel

theorem cond1_iff : ∀ i : grid0.Coords, k0_cond1 i = 1#1 ↔ wid i < 31 := by decide +kernel
theorem cond2_iff : ∀ i : grid0.Coords, k0_cond2 i = 1#1 ↔ ¬ wid i < 31 := by decide +kernel
theorem off1_eq : ∀ i : grid0.Coords, k0_off1 i = ![12544 * wid i] := by decide +kernel
theorem off2_eq : ∀ i : grid0.Coords, k0_off2 i = ![12544 * wid i] := by decide +kernel
theorem wid_lt : ∀ i : grid0.Coords, wid i < 32 := by decide +kernel
theorem trips_eq : k0_t1_loop.trips = 15 := by decide +kernel

end Cert.Proof.Unpool

end
-- ==== Proof.Geometry.lean ====
/-
  What a tile computes, and which elements of its buffers each of its transfers touches. A key's row number is the key
  shifted right by two and cut off at the last row; result row `y` is the table's row at the row number of key `y`. A
  tile's list, its part of the result and its row buffer are cut into chunks and slots, each named by a plain range.
-/
module

public import proofs.«01_k».proof.Proof.Program
public import Idealize.ShloMosaic.Lib.ValueIdxCore
public import Idealize.ShloMosaic.Lib.Pipeline.Value

@[expose] public section

noncomputable section

namespace Cert.Proof.Unpool

open Cert.KernelIdeal Cert.KernelIdeal.Gen
open Idealize.ShloMosaic Idealize.ShloMosaic.ValueIdx
open Idealize.SL Idealize.SL.Sem

variable {F : FTy → Type} [FloatOps F]

/-! ## Values -/

/-- The row number of a key. -/
def laneW (v : BitVec 32) : BitVec 32 := IntOp.minsi (IntOp.shrui .vector v 2#32) 99999#32

theorem laneW_eq (v : BitVec 32) : laneW v = if (v >>> (2#32)).slt 99999#32 then v >>> (2#32) else 99999#32 := rfl

theorem laneW_lt (v : BitVec 32) : (laneW v).toNat < 100000 := by
  have h : (v >>> (2#32)).toNat = v.toNat / 4 := by
    show (v >>> (2 : Nat)).toNat = _
    rw [BitVec.toNat_ushiftRight, Nat.shiftRight_eq_div_pow]
  have hv := v.isLt
  rw [laneW_eq]
  split
  · next hs =>
    rw [BitVec.slt_eq_decide, decide_eq_true_eq, BitVec.toInt_eq_toNat_cond, BitVec.toInt_eq_toNat_cond] at hs
    rw [h] at hs ⊢
    simp only [BitVec.toNat_ofNat, Nat.reducePow, Nat.reduceMod] at hs
    omega
  · decide

theorem lanePay_apply (v : Vec F S16 .i32) (x : S16.Idx) : lanePay (F := F) v x = laneW (v x) := by
  unfold lanePay k0_pay1
  rw [shapeCast_self, shapeCast_self]; rfl

/-- The table row a key names. -/
def rowOf (v : BitVec 32) : Fin 100000 := ⟨(laneW v).toNat, laneW_lt v⟩

/-- What the result holds at the end: at row `y`, the table's row at the row number of key `y`. -/
def finalOut (feat : S100000x128.Idx → Elt F .f32) (keys : S400000.Idx → BitVec 32) : S400000x128.Idx → Elt F .f32 :=
  fun y => feat (ix2 (n0 := 100000) (n1 := 128) (rowOf (keys (ix1 (n := 400000) (y 0)))) (y 1))

/-! ## Ranges -/

/-- Chunk `j` of the list. -/
def listSet (j : Nat) : Finset S12544.Idx := Finset.univ.filter fun x => 128 * j ≤ (x 0).val ∧ (x 0).val < 128 * j + 128

/-- Rows `r` up to `r + k` of the result. -/
def outSet (r k : Nat) : Finset S400000x128.Idx := Finset.univ.filter fun x => r ≤ (x 0).val ∧ (x 0).val < r + k

/-- Slot `b` of the row buffer. -/
def slotSet (b : Fin 7) : Finset S7x128x128.Idx := Finset.univ.filter fun x => (x 0).val = b.val

theorem mem_listSet {j : Nat} {x : S12544.Idx} : x ∈ listSet j ↔ 128 * j ≤ (x 0).val ∧ (x 0).val < 128 * j + 128 := by
  simp [listSet]
theorem mem_outSet {r k : Nat} {x : S400000x128.Idx} : x ∈ outSet r k ↔ r ≤ (x 0).val ∧ (x 0).val < r + k := by simp [outSet]
theorem mem_slotSet {b : Fin 7} {x : S7x128x128.Idx} : x ∈ slotSet b ↔ (x 0).val = b.val := by simp [slotSet]

theorem set_listAt (o : Nat) (h) : (listAt ![o] h).view.set = Finset.univ.filter fun x : S12544.Idx => o ≤ (x 0).val ∧ (x 0).val < o + 128 := by
  show ((View.whole (cc0_scratch0 : Ref sig .scVector)).slice (Rect.unit (s := S12544) ![o] S128.size h)).set = _
  rw [View.set_slice_whole]
  ext x
  rw [Rect.mem_set_unit, Finset.mem_filter]
  exact ⟨fun H => ⟨Finset.mem_univ _, H 0⟩, fun H a => match a with | 0 => H.2⟩

theorem set_listAt_chunk (j : Nat) (h) : (listAt ![128 * j] h).view.set = listSet j := set_listAt _ h

theorem set_outAt (r : Nat) (h) : (outAt ![r, 0] h).view.set = outSet r 128 := by
  show ((View.whole (main_v0_scv : Ref sig .scVector)).slice (Rect.unit (s := S400000x128) ![r, 0] S128x128.size h)).set = _
  rw [View.set_slice_whole]
  ext x
  rw [Rect.mem_set_unit, mem_outSet]
  refine ⟨fun H => H 0, fun H a => match a with | 0 => H | 1 => ⟨Nat.zero_le _, ?_⟩⟩
  have := idx2_lt1 x
  show (x 1).val < 0 + 128
  omega

theorem set_slotM (b : Fin 7) : (slotM b).view.set = slotSet b := by
  show (((View.whole (cc0_scratch1 : Ref sig .scVector)).slice (Rect.unit (s := S7x128x128) ![b.val, 0, 0] S1x128x128.size (slot_inb b))).reshape S128x128 _).set = _
  rw [View.set_reshape, View.set_slice_whole]
  ext x
  rw [Rect.mem_set_unit, mem_slotSet]
  constructor
  · intro H
    have : b.val ≤ (x 0).val ∧ (x 0).val < b.val + 1 := H 0
    omega
  · intro H a
    match a with
    | 0 => show b.val ≤ (x 0).val ∧ (x 0).val < b.val + 1; omega
    | 1 => show 0 ≤ (x 1).val ∧ (x 1).val < 0 + 128; have : (x 1).val < 128 := (x 1).isLt; omega
    | 2 => show 0 ≤ (x 2).val ∧ (x 2).val < 0 + 128; have : (x 2).val < 128 := (x 2).isLt; omega

theorem set_tableM : (tableM).view.set = Finset.univ := by
  show ((View.whole (main_arg0_scv : Ref sig .scVector)).slice (Rect.unit (s := S100000x128) ![0, 0] S100000x128.size inb_S100000x128_S100000x128_0_0)).set = _
  rw [View.set_slice_whole]
  ext x
  rw [Rect.mem_set_unit]
  refine ⟨fun _ => Finset.mem_univ _, fun _ a => ?_⟩
  match a with
  | 0 => show 0 ≤ (x 0).val ∧ (x 0).val < 0 + 100000; have := idx2_lt0 x; omega
  | 1 => show 0 ≤ (x 1).val ∧ (x 1).val < 0 + 128; have := idx2_lt1 x; omega

/-! ## Where a view's elements lie -/

theorem emb_tableM (x : S100000x128.Idx) : (tableM).view.emb x = x := by
  funext a
  apply Fin.ext
  match a with
  | 0 => show 0 + 1 * (x 0).val = (x 0).val; omega
  | 1 => show 0 + 1 * (x 1).val = (x 1).val; omega

theorem emb_listAt (o : Nat) (h) (x : S128.Idx) : (((listAt ![o] h).view.emb x : S12544.Idx) 0).val = o + (x 0).val := by
  show o + 1 * (x 0).val = _; omega

theorem emb_outAt_0 (r : Nat) (h) (x : S128x128.Idx) : (((outAt ![r, 0] h).view.emb x : S400000x128.Idx) 0).val = r + (x 0).val := by
  show r + 1 * (x 0).val = _; omega
theorem emb_outAt_1 (r : Nat) (h) (x : S128x128.Idx) : (((outAt ![r, 0] h).view.emb x : S400000x128.Idx) 1).val = (x 1).val := by
  show 0 + 1 * (x 1).val = _; omega

/-! ## A tile's list -/

/-- The list once fetched: word `x` is key `12544 w + x`. -/
def list0 (keys : S400000.Idx → BitVec 32) (w : Nat) : S12544.Idx → BitVec 32 :=
  fun x => if h : 12544 * w + (x 0).val < 400000 then keys (ix1 (n := 400000) ⟨12544 * w + (x 0).val, h⟩) else 0#32

/-- The list once shifted. -/
def list1 (keys : S400000.Idx → BitVec 32) (w : Nat) : S12544.Idx → BitVec 32 := fun x => laneW (list0 keys w x)

/-- What a gather over chunk `j` of the list delivers. -/
def chunkVal (feat : S100000x128.Idx → Elt F .f32) (keys : S400000.Idx → BitVec 32) (w j : Nat) : S128x128.Idx → Elt F .f32 :=
  fun x => finalOut feat keys (ix2 (n0 := 400000) (n1 := 128) (Fin.ofNat 400000 (12544 * w + 128 * j + (x 0).val)) (x 1))

/-- A gather over chunk `j` of a tile's list delivers rows of the final result. -/
theorem gather_chunk (feat : Buf (Elt F) (((tableM).view.loc (SparseCore.V (nD := nD) (τ := τ) 0 0 0) : Loc nD τ sig)))
    (keys : S400000.Idx → BitVec 32) (w j : Nat) (hj : 12544 * w + 128 * j + 128 ≤ 400000) (h) (hn) (hin) (x : S128x128.Idx) :
    SparseCore.gatherPayload gathers_S100000x128_S128x128 ((tableM).view.read (Elt F) feat)
      (SparseCore.rows (si := S128) ((listAt ![128 * j] h).view.read (Elt F) (list1 keys w)) hn hin) x = chunkVal feat keys w j x := by
  have hx0 := idx2_lt0 x
  unfold SparseCore.gatherPayload
  rw [View.read_apply]
  show feat ((tableM).view.emb _) = _
  rw [emb_tableM]
  unfold chunkVal finalOut
  congr 1
  rw [eq_ix2 (Shape.Gathers.idx _ _ x)]
  congr 1
  · apply Fin.ext
    rw [show (Shape.Gathers.idx gathers_S100000x128_S128x128 _ x) 0 = _ from Shape.Gathers.idx_axis _ _ x]
    show (((listAt ![128 * j] h).view.read (Elt F) (list1 keys w)) _).toNat = _
    rw [View.read_apply]
    show (laneW (list0 keys w _)).toNat = (laneW _).toNat
    congr 2
    unfold list0
    have e : ∀ y : S128.Idx, y = S128.rowMajor.symm (Fin.cast hn.symm (x gathers_S100000x128_S128x128.axis')) → (y 0).val = (x 0).val := by
      intro y hy
      have := Shape.rowMajor_val_one y
      rw [← this, hy]; simp; rfl
    have e' := emb_listAt (128 * j) h (S128.rowMajor.symm (Fin.cast hn.symm (x gathers_S100000x128_S128x128.axis')))
    rw [e _ rfl] at e'
    rw [dif_pos (by rw [e']; omega)]
    congr 2
    apply Fin.ext
    show 12544 * w + _ = (12544 * w + 128 * j + (x 0).val) % 400000
    rw [e', Nat.mod_eq_of_lt (by omega)]; omega

/-- Chunk `j`'s rows, copied to their place in the result, are the final result there. -/
theorem chunkVal_out (feat : S100000x128.Idx → Elt F .f32) (keys : S400000.Idx → BitVec 32) (w j : Nat)
    (hj : 12544 * w + 128 * j + 128 ≤ 400000) (h) (x : S128x128.Idx) :
    chunkVal feat keys w j x = finalOut feat keys ((outAt ![12544 * w + 128 * j, 0] h).view.emb x) := by
  have hx0 := idx2_lt0 x
  unfold chunkVal
  congr 1
  rw [eq_ix2 ((outAt ![12544 * w + 128 * j, 0] h).view.emb x : S400000x128.Idx)]
  congr 1
  · apply Fin.ext
    rw [emb_outAt_0]
    show (12544 * w + 128 * j + (x 0).val) % 400000 = _
    rw [Nat.mod_eq_of_lt (by omega)]
  · apply Fin.ext; rw [emb_outAt_1]

end Cert.Proof.Unpool

end
-- ==== Proof.Setup.lean ====
/-
  The program as the launch theorem sees it, and what one tile holds while it runs: the shares of the table and the
  keys, and the chunks of its list, of its part of the result and of its row buffer.
-/
module

public import proofs.«01_k».proof.Proof.Geometry

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev featLoc (d : Dev nD) : Loc nD τ sig := (SparseCore.T d).loc main_arg0
abbrev keysLoc (d : Dev nD) : Loc nD τ sig := (SparseCore.T d).loc main_arg1
abbrev levelLoc (d : Dev nD) : Loc nD τ sig := (SparseCore.T d).loc main_arg2
abbrev outLoc (d : Dev nD) : Loc nD τ sig := (SparseCore.T d).loc main_v0

/-! ## One tile -/

abbrev cV (i : grid0.Coords) : Fin τ.nSC := (i 0).castLE hcore0
abbrev jV (i : grid0.Coords) : Fin τ.nSub := (i 1).castLE hsub0

/-- The tile at grid point `i` of device `d`. -/
abbrev tid (d : Dev nD) (i : grid0.Coords) : Thread nD τ := V d (cV i) (jV i)

variable [FloatOps F] (d : Dev nD) (i : grid0.Coords)

/-- The tile's list buffer, its row buffer, and the result as the tile addresses it, on a set of elements. -/
abbrev listPts (s : Finset S12544.Idx) (f : S12544.Idx → BitVec 32) : sProp 𝕄 := (listM).view.loc (tid d i) ↦[s]{fullShare} (f : Buf (Elt F) ((listM).view.loc (tid d i)))
abbrev rowsPts (s : Finset S7x128x128.Idx) (g : S7x128x128.Idx → Elt F .f32) : sProp 𝕄 := (rowsM).view.loc (tid d i) ↦[s]{fullShare} (g : Buf (Elt F) ((rowsM).view.loc (tid d i)))
abbrev outPts (s : Finset S400000x128.Idx) (f : S400000x128.Idx → Elt F .f32) : sProp 𝕄 := (outM).view.loc (tid d i) ↦[s]{fullShare} (f : Buf (Elt F) ((outM).view.loc (tid d i)))
abbrev featPts (q : PosShare TreeShare) (f : S100000x128.Idx → Elt F .f32) : sProp 𝕄 := (featM).view.loc (tid d i) ↦[Finset.univ]{q} (f : Buf (Elt F) ((featM).view.loc (tid d i)))
abbrev keysPts (q : PosShare TreeShare) (f : S400000.Idx → BitVec 32) : sProp 𝕄 := (keysM).view.loc (tid d i) ↦[Finset.univ]{q} (f : Buf (Elt F) ((keysM).view.loc (tid d i)))

/-- The weakest precondition of a program of the tile. -/
abbrev wpT {α : Type} (p : TileProg F i α) (Q : α → sProp 𝕄) : sProp 𝕄 := wp frame (wpE (defs₀ (F := F)) 𝒱₀ (tid d i) none) Set.univ p Q

/-- What a transfer of 128 rows is worth, into a slot and into the result. -/
abbrev slotCredit : Nat := (slotM 0).view.dmaCredit
abbrev outCredit : Nat := (outAt ![0, 0] (by decide)).view.dmaCredit

theorem slotCredit_eq (b : Fin 7) : (slotM b).view.dmaCredit = slotCredit := rfl
theorem outCredit_eq (off h) : (outAt off h).view.dmaCredit = outCredit := rfl
theorem outAmount_eq (off h) (b : Fin 7) : (outAt off h).view.amount (SemLoc.dma (osem b)) = outCredit := rfl
theorem outCredit_pos : 0 < outCredit := by decide

theorem slotRows_credit (b : Fin 7) : ∑ k, ((slotM b).slice (S128x128.rowRect gathers_S100000x128_S128x128.axis' k) (S128x128.stride_rowRect gathers_S100000x128_S128x128.axis' k)).view.dmaCredit = slotCredit :=
  SparseCore.sum_rowCredit_eq_dmaCredit (slotM b) _ (fun s' => rfl)

end Cert.Proof.Unpool

end
-- ==== Proof.Moves.lean ====
/-
  The tile's single moves: shifting a chunk of its list, starting and awaiting a gather, starting and awaiting a
  write-back. Each is stated in continuation form over the resources it takes and gives.
-/
module

public import proofs.«01_k».proof.Proof.Setup

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords) {α : Type}

/-! ## Shifting a chunk -/

/-- The list with every word before `o` shifted. -/
def upTo (o : Nat) (f : S12544.Idx → BitVec 32) : S12544.Idx → BitVec 32 := fun x => if (x 0).val < o then laneW (f x) else f x

theorem set_lane (o : Nat) (h) : ((listM).access (Rect.unit (s := S12544) ![o] S16.size h)).set
    = Finset.univ.filter fun x : S12544.Idx => o ≤ (x 0).val ∧ (x 0).val < o + 16 := by
  show ((View.whole (cc0_scratch0 : Ref sig .scVector)).slice (Rect.unit (s := S12544) ![o] S16.size h)).set = _
  rw [View.set_slice_whole]
  ext x
  rw [Rect.mem_set_unit, Finset.mem_filter]
  exact ⟨fun H => ⟨Finset.mem_univ _, H 0⟩, fun H a => match a with | 0 => H.2⟩

/-- Storing a group's row numbers over its keys moves the shifted part on by the group. -/
theorem upTo_write (o : Nat) (h) (f : S12544.Idx → BitVec 32) :
    ((listM).access (Rect.unit (s := S12544) ![o] S16.size h)).write (Elt F) (upTo o f)
      (lanePay (F := F) (((listM).access (Rect.unit (s := S12544) ![o] S16.size h)).read (Elt F) (upTo o f))) Finset.univ
      = upTo (o + 16) f := by
  funext x
  by_cases hx : x ∈ ((listM).access (Rect.unit (s := S12544) ![o] S16.size h)).set
  · have hx' := hx
    rw [set_lane, Finset.mem_filter] at hx'
    obtain ⟨y, -, rfl⟩ := Finset.mem_map.mp hx
    rw [View.write_emb_of_mem _ _ (Finset.mem_univ y), lanePay_apply, View.read_apply]
    show laneW (upTo o f _) = _
    unfold upTo
    rw [if_neg (by omega), if_pos (by omega)]
  · rw [View.write_of_not_mem _ _ _ (by rwa [View.setOn_univ])]
    rw [set_lane, Finset.mem_filter] at hx
    unfold upTo
    have : ¬ (o ≤ (x 0).val ∧ (x 0).val < o + 16) := fun H => hx ⟨Finset.mem_univ _, H⟩
    by_cases h1 : (x 0).val < o
    · rw [if_pos h1, if_pos (by omega)]
    · rw [if_neg h1, if_neg (by omega)]

/-- One group of sixteen. -/
theorem wp_lane (o o' : Nat) (ho : o' = o + 16) (h) (s : Finset S12544.Idx) (hs : ∀ x : S12544.Idx, o ≤ (x 0).val → (x 0).val < o + 16 → x ∈ s)
    (f : S12544.Idx → BitVec 32) (rest : TileProg F i α) (Q : α → sProp 𝕄) :
    iprop(listPts (F := F) d i s (upTo o f) ∗ (listPts (F := F) d i s (upTo o' f) -∗ wpT d i rest Q)) ⊢ wpT d i (laneP i ![o] h rest) Q := by
  subst ho
  have hS : ((listM).access (Rect.unit (s := S12544) ![o] S16.size h)).set ⊆ s := by
    rw [set_lane]; intro x hx; exact hs x (Finset.mem_filter.mp hx).2.1 (Finset.mem_filter.mp hx).2.2
  iintro ⟨Hl, Hk⟩
  unfold laneP
  simp only [Prog.bind_lift, Prog.bind_op, Prog.bind_ret]
  iapply (wp_load_rect 𝒱₀ (tid d i) none Set.univ (m := listM) (r := Rect.unit (s := S12544) ![o] S16.size h) hS) $$ Hl
  iintro Hl
  iapply (wp_load_rect 𝒱₀ (tid d i) none Set.univ (m := listM) (r := Rect.unit (s := S12544) ![o] S16.size h) hS) $$ Hl
  iintro Hl
  iapply (wp_store 𝒱₀ (tid d i) none Set.univ (m := listM) (r := Rect.unit (s := S12544) ![o] S16.size h) (by rwa [View.setOn_univ])) $$ Hl
  iintro Hl
  rw [upTo_write]
  iapply Hk; iexact Hl

/-- A chunk, group by group. -/
theorem wp_lanes (keys : S400000.Idx → BitVec 32) (w j : Nat) (off : Fin 8 → Fin 1 → Nat) (hoff : off = fun r => ![128 * j + 16 * r.val]) (h)
    (rest : TileProg F i α) (Q : α → sProp 𝕄) :
    iprop(listPts (F := F) d i (listSet j) (list0 keys w) ∗ (listPts (F := F) d i (listSet j) (list1 keys w) -∗ wpT d i rest Q))
      ⊢ wpT d i (lanesP i off h rest) Q := by
  subst hoff
  have e0 : listPts (F := F) d i (listSet j) (list0 keys w) = listPts (F := F) d i (listSet j) (upTo (128 * j + 16 * (0 : Fin 8).val) (list0 keys w)) :=
    pointsTo_congr fun x hx => by
      rw [mem_listSet] at hx
      show list0 keys w x = upTo _ _ x
      unfold upTo; rw [if_neg (by show ¬ (x 0).val < 128 * j + 16 * 0; omega)]
  have e8 : listPts (F := F) d i (listSet j) (list1 keys w) = listPts (F := F) d i (listSet j) (upTo (128 * j + 128) (list0 keys w)) :=
    pointsTo_congr fun x hx => by
      rw [mem_listSet] at hx
      show list1 keys w x = upTo _ _ x
      unfold upTo list1; rw [if_pos (by omega)]
  have mem : ∀ (r : Fin 8) (x : S12544.Idx), 128 * j + 16 * r.val ≤ (x 0).val → (x 0).val < 128 * j + 16 * r.val + 16 → x ∈ listSet j := by
    intro r x h1 h2; rw [mem_listSet]; omega
  rw [e0, e8]
  unfold lanesP
  have step : ∀ (r : Fin 8) (o' : Nat) (ho : o' = 128 * j + 16 * r.val + 16) (rest : TileProg F i α) (R : sProp 𝕄),
      (iprop(listPts (F := F) d i (listSet j) (upTo o' (list0 keys w)) ∗ R) ⊢ wpT d i rest Q) →
      iprop(listPts (F := F) d i (listSet j) (upTo (128 * j + 16 * r.val) (list0 keys w)) ∗ R)
        ⊢ wpT d i (laneP i ![128 * j + 16 * r.val] (h r) rest) Q := by
    intro r o' ho rest R hR
    refine BIBase.Entails.trans ?_ (wp_lane d i _ o' ho (h r) _ (mem r) (list0 keys w) rest Q)
    iintro ⟨Hl, HR⟩
    isplitl [Hl]; · iexact Hl
    iintro Hl
    iapply hR
    isplitl [Hl] <;> iassumption
  refine step 0 (128 * j + 16 * (1 : Fin 8).val) rfl _ _ <| step 1 (128 * j + 16 * (2 : Fin 8).val) rfl _ _ <|
    step 2 (128 * j + 16 * (3 : Fin 8).val) rfl _ _ <| step 3 (128 * j + 16 * (4 : Fin 8).val) rfl _ _ <|
    step 4 (128 * j + 16 * (5 : Fin 8).val) rfl _ _ <| step 5 (128 * j + 16 * (6 : Fin 8).val) rfl _ _ <|
    step 6 (128 * j + 16 * (7 : Fin 8).val) rfl _ _ <| step 7 (128 * j + 128) rfl _ _ ?_
  iintro ⟨Hl, Hk⟩
  iapply Hk; iexact Hl

/-! ## What the transfers carry -/

variable (feat : S100000x128.Idx → Elt F .f32) (keys : S400000.Idx → BitVec 32) (qf : PosShare TreeShare)

theorem seven_pos : 0 < 7 := by decide

/-- The share of the table that gathers into slot `b` read by. -/
abbrev featPiece (b : Fin 7) : sProp 𝕄 := featPts (F := F) d i (pieceOf qf 7 seven_pos b) feat

/-- Slot `b` holding something. -/
abbrev slotRes (b : Fin 7) : sProp 𝕄 := iprop(∃ g, rowsPts (F := F) d i (slotSet b) g)

/-- Chunk `j` of the list, before and after its shift, and of the result, before and after it is written. -/
abbrev chunk0 (j : Nat) : sProp 𝕄 := listPts (F := F) d i (listSet j) (list0 keys (wid i))
abbrev chunk1 (j : Nat) : sProp 𝕄 := listPts (F := F) d i (listSet j) (list1 keys (wid i))
abbrev out0 (j : Nat) : sProp 𝕄 := iprop(∃ f, outPts (F := F) d i (outSet (12544 * wid i + 128 * j) 128) f)
abbrev out1 (j : Nat) : sProp 𝕄 := outPts (F := F) d i (outSet (12544 * wid i + 128 * j) 128) (finalOut feat keys)

/-- Slot `b` holding the rows of chunk `j`. -/
abbrev slotFull (j : Nat) (b : Fin 7) : sProp 𝕄 :=
  iprop(∃ g : Buf (Elt F) ((slotM b).view.loc (tid d i)), ⌜∀ x, (slotM b).view.read (Elt F) g x = chunkVal feat keys (wid i) j x⌝ ∗ rowsPts (F := F) d i (slotSet b) g)

/-- A gather of chunk `j` into slot `b` under way, and a write-back of chunk `j` from slot `b` under way. -/
abbrev gatherFlight (j : Nat) (b : Fin 7) : sProp 𝕄 :=
  Transfers.Flight countersEmb (tid d i) (.dma (gsem b)) (default : HIx 1) slotCredit
    iprop(slotFull d i feat keys j b ∗ featPiece d i feat qf b ∗ chunk1 d i keys j)
abbrev writeFlight (j : Nat) (b : Fin 7) : sProp 𝕄 :=
  Transfers.Flight countersEmb (tid d i) (.dma (osem b)) (default : HIx 1) outCredit
    iprop(out1 d i feat keys j ∗ slotRes d i b)

/-- The tile's `owes`, with waits of the tile's own recorded beyond `W`. -/
abbrev owing (O : CellTallies nD τ sig (HIx 1)) (W : Waits sig (HIx 1)) : sProp 𝕄 :=
  iprop(∃ W', ⌜∀ p ∈ W', p ∈ W ∨ p.2 = none⌝ ∗ owes (tid d i) O W')

theorem owing_insert {O : CellTallies nD τ sig (HIx 1)} {W W' : Waits sig (HIx 1)} (hW' : ∀ p ∈ W', p ∈ W ∨ p.2 = none) (s : SemLoc sig) :
    (owes (tid d i) O (insert (s, (default : HIx 1)) W') : sProp 𝕄) ⊢ owing d i O W := by
  iintro HO
  iexists _; isplitr
  swap; · iexact HO
  ipureintro; intro p hp
  rcases Finset.mem_insert.mp hp with hp | hp
  · exact .inr (hp ▸ rfl)
  · exact hW' p hp

/-! ## The moves -/

/-- Start gathering chunk `j` into slot `b`. -/
theorem wp_startGather (b : Fin 7) (j : Nat) (hj : 12544 * wid i + 128 * j + 128 ≤ 400000) (off : Fin 1 → Nat) (hoff : off = ![128 * j]) (h)
    (rest : TileProg F i α) (Q : α → sProp 𝕄) :
    iprop(chunk1 d i keys j ∗ slotRes d i b ∗ featPiece d i feat qf b ∗ semVal (tid d i, .dma (gsem b)) 0
        ∗ (gatherFlight d i feat keys qf j b -∗ wpT d i rest Q))
      ⊢ wpT d i (startGather i b off h rest) Q := by
  subst hoff
  iintro ⟨Hl, ⟨%g, Hr⟩, Hf, Hs, Hk⟩
  have hin : ∀ x, ((listAt ![128 * j] h).view.read (Elt F) (list1 keys (wid i)) x).toNat < S100000x128.size gathers_S100000x128_S128x128.axis := by
    intro x; rw [View.read_apply]; exact laneW_lt _
  ihave Hl := (Entails.of_eq (show chunk1 (F := F) d i keys j = ((listAt ![128 * j] h).view.loc (tid d i) ↦[(listAt ![128 * j] h).view.set]{fullShare} list1 keys (wid i) : sProp 𝕄) by
    rw [set_listAt_chunk])) $$ Hl
  ihave Hr := (Entails.of_eq (show rowsPts (F := F) d i (slotSet b) g = ((slotM b).view.loc (tid d i) ↦[(slotM b).view.set]{fullShare} g : sProp 𝕄) by
    rw [set_slotM])) $$ Hr
  ihave Hf := (Entails.of_eq (show featPiece (F := F) d i feat qf b = ((tableM).view.loc (tid d i) ↦[(tableM).view.set]{pieceOf qf 7 seven_pos b} feat : sProp 𝕄) by
    rw [set_tableM])) $$ Hf
  unfold startGather
  iapply (SparseCore.wp_indirectGatherLocal countersEmb 𝒱₀ (tid d i) none (hg := gathers_S100000x128_S128x128) (default : HIx 1)
      slotCredit (slotRows_credit b) (by decide) hin) $$ [Hf Hr Hl Hs]
  · isplitl [Hf]; · iexact Hf
    isplitl [Hr]; · iexact Hr
    isplitl [Hl]; · iexact Hl
    iexact Hs
  iintro Hfl
  iapply Hk
  iapply (Transfers.Flight_mono countersEmb (tid d i) ?_) $$ Hfl
  iintro ⟨Hr, Hf, Hl⟩
  isplitl [Hr]
  · iexists _; isplitr
    swap
    · iapply (Entails.of_eq (show ((slotM b).view.loc (tid d i) ↦[(slotM b).view.set]{fullShare} _ : sProp 𝕄) = rowsPts (F := F) d i (slotSet b) _ by rw [set_slotM])) $$ Hr
    ipureintro; intro x
    rw [View.read_write_univ]
    exact gather_chunk feat keys (wid i) j hj h _ _ x
  isplitl [Hf]
  · iapply (Entails.of_eq (show ((tableM).view.loc (tid d i) ↦[(tableM).view.set]{pieceOf qf 7 seven_pos b} feat : sProp 𝕄) = featPiece (F := F) d i feat qf b by
      rw [set_tableM])) $$ Hf
  · iapply (Entails.of_eq (show ((listAt ![128 * j] h).view.loc (tid d i) ↦[(listAt ![128 * j] h).view.set]{fullShare} list1 keys (wid i) : sProp 𝕄) = chunk1 (F := F) d i keys j by
      rw [set_listAt_chunk])) $$ Hl

/-- Wait for the write-back from slot `b`. -/
theorem wp_awaitOut (b : Fin 7) (j : Nat) (off : Fin 2 → Nat) (h) {O : CellTallies nD τ sig (HIx 1)} {W : Waits sig (HIx 1)}
    (rest : TileProg F i α) (Q : α → sProp 𝕄) :
    iprop(writeFlight d i feat keys j b ∗ owing d i O W ∗ Transfers.MayWaits (tid d i) (default : HIx 1) O
        ∗ (iprop(out1 d i feat keys j ∗ slotRes d i b ∗ semVal (tid d i, .dma (osem b)) 0 ∗ owing d i O W) -∗ wpT d i rest Q))
      ⊢ wpT d i (awaitOut i b off h rest) Q := by
  iintro ⟨Hfl, ⟨%W', %hW', HO⟩, Hmw, Hk⟩
  unfold awaitOut
  simp only [Prog.bind_lift, Prog.bind_op, Prog.bind_ret]
  iapply (Transfers.wp_waitLocalO countersEmb 𝒱₀ (tid d i) none (default : HIx 1) (outCredit_eq off h)) $$ [Hfl HO Hmw]
  · isplitl [Hfl]; · iexact Hfl
    isplitl [HO]; · iexact HO
    iapply (Transfers.MayWaits.elim (SemLoc.dma (osem b))) $$ Hmw
  iintro ⟨⟨Ho, Hr⟩, Hs, HO⟩
  iapply Hk
  isplitl [Ho]; · iexact Ho
  isplitl [Hr]; · iexact Hr
  isplitl [Hs]; · iexact Hs
  iapply (owing_insert d i hW' _) $$ HO

/-- Copying a full slot to its place in the result leaves the final result there. -/
theorem out_written (b : Fin 7) (j : Nat) (hj : 12544 * wid i + 128 * j + 128 ≤ 400000) (h)
    (f : Buf (Elt F) ((outAt ![12544 * wid i + 128 * j, 0] h).view.loc (tid d i))) (g : Buf (Elt F) ((slotM b).view.loc (tid d i)))
    (hg : ∀ x, (slotM b).view.read (Elt F) g x = chunkVal feat keys (wid i) j x) :
    ∀ y ∈ (outSet (12544 * wid i + 128 * j) 128 : Finset (Idx ((outAt ![12544 * wid i + 128 * j, 0] h).view.loc (tid d i)))),
      (outAt ![12544 * wid i + 128 * j, 0] h).view.write (Elt F) f ((ReadAs.same : ReadAs (Elt F) S128x128 .f32 S128x128 .f32).apply ((slotM b).view.read (Elt F) g)) Finset.univ y
        = finalOut feat keys y := by
  intro y hy
  rw [← set_outAt _ h] at hy
  obtain ⟨x, -, rfl⟩ := Finset.mem_map.mp hy
  rw [View.write_emb_of_mem _ _ (Finset.mem_univ x)]
  exact (hg x).trans (chunkVal_out feat keys (wid i) j hj h x)

/-- The write step of slot `b` on chunk `j`: wait for its gather, start copying it out. -/
theorem wp_writeStep (b : Fin 7) (j : Nat) (hj : 12544 * wid i + 128 * j + 128 ≤ 400000) (c : BitVec 1) (hc : c = 1#1)
    (off : Fin 2 → Nat) (hoff : off = ![12544 * wid i + 128 * j, 0]) (h) {O : CellTallies nD τ sig (HIx 1)} {W : Waits sig (HIx 1)}
    (rest : TileProg F i α) (Q : α → sProp 𝕄) :
    iprop(gatherFlight d i feat keys qf j b ∗ semVal (tid d i, .dma (osem b)) 0 ∗ out0 d i j ∗ owing d i O W ∗ Transfers.MayWaits (tid d i) (default : HIx 1) O
        ∗ (iprop(writeFlight d i feat keys j b ∗ semVal (tid d i, .dma (gsem b)) 0 ∗ featPiece d i feat qf b ∗ chunk1 d i keys j ∗ owing d i O W) -∗ wpT d i rest Q))
      ⊢ wpT d i (writeP i b c off h rest) Q := by
  subst hoff
  iintro ⟨Hfl, Hso, ⟨%f, Ho⟩, ⟨%W', %hW', HO⟩, Hmw, Hk⟩
  unfold writeP
  rw [dif_pos hc]
  unfold SparseCore.waitIndirectGather
  simp only [Prog.bind_lift, Prog.bind_op, Prog.bind_ret]
  iapply (Transfers.wp_waitLocalO countersEmb 𝒱₀ (tid d i) none (default : HIx 1) (slotCredit_eq b)) $$ [Hfl HO Hmw]
  · isplitl [Hfl]; · iexact Hfl
    isplitl [HO]; · iexact HO
    iapply (Transfers.MayWaits.elim (SemLoc.dma (gsem b))) $$ Hmw
  iintro ⟨⟨⟨%g, %hg, Hr⟩, Hf, Hl⟩, Hsg, HO⟩
  ihave Hr := (Entails.of_eq (show rowsPts (F := F) d i (slotSet b) g = ((slotM b).view.loc (tid d i) ↦[(slotM b).view.set]{fullShare} g : sProp 𝕄) by
    rw [set_slotM])) $$ Hr
  iapply (Transfers.wp_dmaLocal countersEmb 𝒱₀ (tid d i) none (src := slotM b) (dst := outAt ![12544 * wid i + 128 * j, 0] (h hc)) (default : HIx 1) outCredit
      (outAmount_eq _ (h hc) b) outCredit_pos (Sd := outSet (12544 * wid i + 128 * j) 128) (by rw [set_outAt])) $$ [Hr Ho Hso]
  · isplitl [Hr]; · iexact Hr
    isplitl [Ho]; · iexact Ho
    iexact Hso
  iintro Hfl
  iapply Hk
  isplitl [Hfl]
  · iapply (Transfers.Flight_mono countersEmb (tid d i) ?_) $$ Hfl
    iintro ⟨Ho, Hr⟩
    isplitl [Ho]
    · iapply (Entails.of_eq (pointsTo_congr (out_written d i feat keys b j hj (h hc) f g hg))) $$ Ho
    · iexists g
      iapply (Entails.of_eq (show ((slotM b).view.loc (tid d i) ↦[(slotM b).view.set]{fullShare} g : sProp 𝕄) = rowsPts (F := F) d i (slotSet b) g by
        rw [set_slotM])) $$ Hr
  isplitl [Hsg]; · iexact Hsg
  isplitl [Hf]; · iexact Hf
  isplitl [Hl]; · iexact Hl
  iapply (owing_insert d i hW' _) $$ HO

end Cert.Proof.Unpool

end
-- ==== Proof.State.lean ====
/-
  The loop's invariant. Two clocks count the gather steps `g` and the write steps `w` done. Every chunk of the tile is
  waiting, being gathered, being written back or done, as the clocks say; a slot no gather has used yet is free. A gather
  step moves its own chunk on and retires the chunk seven before it; a write step moves the chunk six before it on.
-/
module

public import proofs.«01_k».proof.Proof.Moves

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Changing a family at a member or two -/

theorem bigSep_at {I : Type} [DecidableEq I] {s : Finset I} {Φ Ψ : I → sProp 𝕄} {a : I} (ha : a ∈ s)
    (h : ∀ j ∈ s, j ≠ a → Φ j = Ψ j) : bigSep s Φ ⊢ iprop(Φ a ∗ (Ψ a -∗ bigSep s Ψ)) := by
  rw [SparseCore.bigSep_erase' (Φ := Φ) ha, SparseCore.bigSep_erase' (Φ := Ψ) ha,
    bigSep_congr (s := s.erase a) (Φ := Φ) (Ψ := Ψ) fun j hj => h j (Finset.mem_of_mem_erase hj) (Finset.ne_of_mem_erase hj)]
  iintro ⟨Ha, Hr⟩
  isplitl [Ha]; · iexact Ha
  iintro Hb
  isplitl [Hb] <;> iassumption

theorem bigSep_at₂ {I : Type} [DecidableEq I] {s : Finset I} {Φ Ψ : I → sProp 𝕄} {a b : I} (ha : a ∈ s) (hb : b ∈ s) (hab : a ≠ b)
    (h : ∀ j ∈ s, j ≠ a → j ≠ b → Φ j = Ψ j) : bigSep s Φ ⊢ iprop(Φ a ∗ Φ b ∗ (iprop(Ψ a ∗ Ψ b) -∗ bigSep s Ψ)) := by
  rw [SparseCore.bigSep_erase' (Φ := Φ) ha, SparseCore.bigSep_erase' (Φ := Ψ) ha]
  have hb' : b ∈ s.erase a := Finset.mem_erase.mpr ⟨hab.symm, hb⟩
  iintro ⟨Ha, Hr⟩
  ihave Hr := (bigSep_at (Φ := Φ) (Ψ := Ψ) hb' fun j hj hjb => h j (Finset.mem_of_mem_erase hj) (Finset.ne_of_mem_erase hj) hjb) $$ Hr
  icases Hr with ⟨Hb, Hr⟩
  isplitl [Ha]; · iexact Ha
  isplitl [Hb]; · iexact Hb
  iintro ⟨Ha, Hb⟩
  isplitl [Ha]; · iexact Ha
  iapply Hr; iexact Hb

variable [FloatOps F] (d : Dev nD) (i : grid0.Coords) {α : Type}
variable (feat : S100000x128.Idx → Elt F .f32) (keys : S400000.Idx → BitVec 32) (qf : PosShare TreeShare)

/-! ## The phases of a chunk -/

/-- The slot of step `s`. -/
abbrev slotOf (s : Nat) : Fin 7 := Fin.ofNat 7 s

abbrev todo (j : Nat) : sProp 𝕄 := iprop(chunk0 d i keys j ∗ out0 d i j)
abbrev gathering (j : Nat) : sProp 𝕄 := iprop(gatherFlight d i feat keys qf j (slotOf j) ∗ semVal (tid d i, .dma (osem (slotOf j))) 0 ∗ out0 d i j)
abbrev writing (j : Nat) : sProp 𝕄 :=
  iprop(writeFlight d i feat keys j (slotOf j) ∗ semVal (tid d i, .dma (gsem (slotOf j))) 0 ∗ featPiece d i feat qf (slotOf j) ∗ chunk1 d i keys j)
abbrev finished (j : Nat) : sProp 𝕄 := iprop(out1 d i feat keys j ∗ chunk1 d i keys j)

/-- A slot nobody uses. -/
abbrev freeSlot (b : Fin 7) : sProp 𝕄 :=
  iprop(slotRes d i b ∗ semVal (tid d i, .dma (gsem b)) 0 ∗ semVal (tid d i, .dma (osem b)) 0 ∗ featPiece d i feat qf b)

/-- Chunk `j` after `g` gather steps and `w` write steps. -/
def chunkRes (g w j : Nat) : sProp 𝕄 :=
  if g ≤ j then todo d i keys j else if w ≤ j + 6 then gathering d i feat keys qf j
    else if g ≤ j + 7 ∨ nch i ≤ j + 7 then writing d i feat keys qf j else finished d i feat keys j

/-- Slot `b` after `g` gather steps, where no chunk has it. -/
def slotLeft (g : Nat) (b : Fin 7) : sProp 𝕄 := if g ≤ b.val then freeSlot d i feat qf b else iprop(emp)

/-- The invariant. -/
def state (O : CellTallies nD τ sig (HIx 1)) (W : Waits sig (HIx 1)) (g w : Nat) : sProp 𝕄 :=
  iprop(Transfers.MayWaits (tid d i) (default : HIx 1) O ∗ owing d i O W
    ∗ bigSep (Finset.range (nch i)) (chunkRes d i feat keys qf g w) ∗ bigSep Finset.univ (slotLeft d i feat qf g))

section Phases
variable {d i feat keys qf} {g w j : Nat}

theorem chunkRes_todo (h : g ≤ j) : chunkRes d i feat keys qf g w j = todo d i keys j := if_pos h
theorem chunkRes_gathering (h : j < g) (h' : w ≤ j + 6) : chunkRes d i feat keys qf g w j = gathering d i feat keys qf j := by
  unfold chunkRes; rw [if_neg (by omega), if_pos h']
theorem chunkRes_writing (h : j < g) (h' : j + 6 < w) (h'' : g ≤ j + 7 ∨ nch i ≤ j + 7) : chunkRes d i feat keys qf g w j = writing d i feat keys qf j := by
  unfold chunkRes; rw [if_neg (by omega), if_neg (by omega), if_pos h'']
theorem chunkRes_finished (h : j + 7 < g) (h' : j + 6 < w) (h'' : j + 7 < nch i) : chunkRes d i feat keys qf g w j = finished d i feat keys j := by
  unfold chunkRes; rw [if_neg (by omega), if_neg (by omega), if_neg (by omega)]

/-- A gather step touches its own chunk and the one seven before. -/
theorem chunkRes_gather_other (s : Nat) (hj : j ≠ s) (hj' : j + 7 ≠ s ∨ nch i ≤ s) : chunkRes d i feat keys qf s w j = chunkRes d i feat keys qf (s + 1) w j := by
  unfold chunkRes
  rw [if_congr (show s ≤ j ↔ s + 1 ≤ j by omega) rfl rfl, if_congr (P := s ≤ j + 7 ∨ nch i ≤ j + 7) (show s ≤ j + 7 ∨ nch i ≤ j + 7 ↔ s + 1 ≤ j + 7 ∨ nch i ≤ j + 7 by omega) rfl rfl]

/-- A write step touches the chunk six before. -/
theorem chunkRes_write_other (s : Nat) (hj : j + 6 ≠ s) : chunkRes d i feat keys qf g s j = chunkRes d i feat keys qf g (s + 1) j := by
  unfold chunkRes
  rw [if_congr (show s ≤ j + 6 ↔ s + 1 ≤ j + 6 by omega) rfl rfl]

theorem slotLeft_free {b : Fin 7} (h : g ≤ b.val) : slotLeft d i feat qf g b = freeSlot d i feat qf b := if_pos h
theorem slotLeft_emp {b : Fin 7} (h : b.val < g) : slotLeft d i feat qf g b = iprop(emp) := if_neg (by omega)
theorem slotLeft_other (s : Nat) {b : Fin 7} (h : b.val ≠ s) : slotLeft d i feat qf s b = slotLeft d i feat qf (s + 1) b := by
  unfold slotLeft; rw [if_congr (show s ≤ b.val ↔ s + 1 ≤ b.val by omega) rfl rfl]

end Phases

theorem nch_bound (j : Nat) (hj : j < nch i) : 12544 * wid i + 128 * j + 128 ≤ 400000 := by
  have := wid_lt i
  unfold nch at hj
  split at hj <;> omega

theorem slotOf_step (t : Fin k0_t1_loop.trips) (b : Fin 7) : slotOf (stepNo t b) = b :=
  Fin.ext (by show (7 * t.val + b.val) % 7 = b.val; have := b.isLt; omega)
theorem slotOf_before (t : Fin k0_t1_loop.trips) (b : Fin 7) (h : 7 ≤ stepNo t b) : slotOf (stepNo t b - 7) = b :=
  Fin.ext (by show (stepNo t b - 7) % 7 = b.val; unfold stepNo at *; have := b.isLt; omega)
theorem slotOf_write (t : Fin k0_t1_loop.trips) (b : Fin 7) (h : 6 ≤ stepNo t b) : slotOf (stepNo t b - 6) = b + 1 :=
  Fin.ext (by
    rw [Fin.val_add]
    show (stepNo t b - 6) % 7 = (b.val + 1) % 7
    unfold stepNo at *; have := b.isLt; omega)

/-! ## The two steps -/

variable (O : CellTallies nD τ sig (HIx 1)) (W : Waits sig (HIx 1))

/-- A gather step moves the gather clock on. -/
theorem wp_gatherStep (t : Fin k0_t1_loop.trips) (b : Fin 7) (rest : TileProg F i α) (Q : α → sProp 𝕄) :
    iprop(state d i feat keys qf O W (stepNo t b) (stepNo t b) ∗ (state d i feat keys qf O W (stepNo t b + 1) (stepNo t b) -∗ wpT d i rest Q))
      ⊢ wpT d i (gatherP i b (condG i t b) (condA t b) (offK t b) (offK_inb i t b) (offA i t b) (offA_inb i t b) (offL t b) (offL_inb i t b) rest) Q := by
  have hb := b.isLt
  have hsb := slotOf_step t b
  unfold gatherP
  by_cases hG : condG i t b = 1#1
  · have hn := (condG_iff i t b).mp hG
    have hbd := nch_bound i _ hn
    rw [dif_pos hG]
    by_cases hA : condA t b = 1#1
    · -- the slot's chunk of seven steps ago is awaited first
      have h7 := (condA_iff t b).mp hA
      have hsb' := slotOf_before t b h7
      rw [dif_pos hA]
      generalize hs : stepNo t b = s at *
      unfold state
      rw [bigSep_congr (s := Finset.univ) (Φ := slotLeft d i feat qf s) (Ψ := slotLeft d i feat qf (s + 1)) fun c _ => slotLeft_other s (by have := c.isLt; omega)]
      iintro ⟨⟨#Hmw, HO, Hch, Hsl⟩, Hk⟩
      ihave Hch := (bigSep_at₂ (a := s) (b := s - 7) (Φ := chunkRes d i feat keys qf s s) (Ψ := chunkRes d i feat keys qf (s + 1) s)
        (Finset.mem_range.mpr hn) (Finset.mem_range.mpr (by omega)) (by omega)
        (fun j _ hj hj' => chunkRes_gather_other s hj (.inl (by omega)))) $$ Hch
      rw [chunkRes_todo (le_refl s), chunkRes_writing (j := s - 7) (by omega) (by omega) (.inl (by omega)),
        chunkRes_gathering (j := s) (by omega) (by omega), chunkRes_finished (j := s - 7) (by omega) (by omega) (by omega)]
      unfold todo writing gathering finished
      rw [hsb, hsb']
      icases Hch with ⟨⟨Hl, Ho⟩, ⟨Hfl, Hsg, Hf, Hl'⟩, Hback⟩
      iapply (wp_lanes d i keys (wid i) s (offK t b) (funext fun r => by rw [offK_eq t b r, hs]) (offK_inb i t b hG)) $$ [-]
      isplitl [Hl]; · iexact Hl
      iintro Hl
      iapply (wp_awaitOut d i feat keys b (s - 7) (offA i t b) (offA_inb i t b hG hA) (O := O) (W := W)) $$ [-]
      isplitl [Hfl]; · iexact Hfl
      isplitl [HO]; · iexact HO
      isplitr; · iexact Hmw
      iintro ⟨Ho', Hr, Hso, HO⟩
      iapply (wp_startGather d i feat keys qf b s hbd (offL t b) ((offL_eq t b).trans (by rw [hs])) (offL_inb i t b hG)) $$ [-]
      isplitl [Hl]; · iexact Hl
      isplitl [Hr]; · iexact Hr
      isplitl [Hf]; · iexact Hf
      isplitl [Hsg]; · iexact Hsg
      iintro Hfl
      iapply Hk
      isplitr; · iexact Hmw
      isplitl [HO]; · iexact HO
      isplitr [Hsl]
      · iapply Hback
        isplitl [Hfl Hso Ho]
        · isplitl [Hfl]; · iexact Hfl
          isplitl [Hso]; · iexact Hso
          iexact Ho
        · isplitl [Ho'] <;> iassumption
      · iexact Hsl
    · -- a slot not used yet
      have h7 : stepNo t b < 7 := by have := mt (condA_iff t b).mpr hA; omega
      rw [dif_neg hA]
      have hbs : b.val = stepNo t b := by unfold stepNo at *; omega
      generalize hs : stepNo t b = s at *
      unfold state
      iintro ⟨⟨#Hmw, HO, Hch, Hsl⟩, Hk⟩
      ihave Hch := (bigSep_at (a := s) (Φ := chunkRes d i feat keys qf s s) (Ψ := chunkRes d i feat keys qf (s + 1) s)
        (Finset.mem_range.mpr hn) (fun j _ hj => chunkRes_gather_other s hj (.inl (by omega)))) $$ Hch
      ihave Hsl := (bigSep_at (a := b) (Φ := slotLeft d i feat qf s) (Ψ := slotLeft d i feat qf (s + 1))
        (Finset.mem_univ b) (fun c _ hc => slotLeft_other s (fun e => hc (Fin.ext (by omega))))) $$ Hsl
      rw [chunkRes_todo (le_refl s), chunkRes_gathering (j := s) (by omega) (by omega), slotLeft_free (g := s) (by omega), slotLeft_emp (g := s + 1) (by omega)]
      unfold todo gathering freeSlot
      rw [hsb]
      icases Hch with ⟨⟨Hl, Ho⟩, Hback⟩
      icases Hsl with ⟨⟨Hr, Hsg, Hso, Hf⟩, Hback'⟩
      iapply (wp_lanes d i keys (wid i) s (offK t b) (funext fun r => by rw [offK_eq t b r, hs]) (offK_inb i t b hG)) $$ [-]
      isplitl [Hl]; · iexact Hl
      iintro Hl
      iapply (wp_startGather d i feat keys qf b s hbd (offL t b) ((offL_eq t b).trans (by rw [hs])) (offL_inb i t b hG)) $$ [-]
      isplitl [Hl]; · iexact Hl
      isplitl [Hr]; · iexact Hr
      isplitl [Hf]; · iexact Hf
      isplitl [Hsg]; · iexact Hsg
      iintro Hfl
      iapply Hk
      isplitr; · iexact Hmw
      isplitl [HO]; · iexact HO
      isplitr [Hback']
      · iapply Hback
        isplitl [Hfl]; · iexact Hfl
        isplitl [Hso]; · iexact Hso
        iexact Ho
      · iapply Hback'; iempintro
  · -- no chunk left to gather
    have hn : ¬ stepNo t b < nch i := mt (condG_iff i t b).mpr hG
    have h7 : 7 ≤ nch i := by unfold nch; split <;> omega
    rw [dif_neg hG]
    generalize hs : stepNo t b = s at *
    have e : state d i feat keys qf O W s s = state d i feat keys qf O W (s + 1) s := by
      unfold state
      rw [bigSep_congr (s := Finset.univ) (Φ := slotLeft d i feat qf s) (Ψ := slotLeft d i feat qf (s + 1)) fun c _ => slotLeft_other s (by have := c.isLt; omega),
        bigSep_congr (s := Finset.range (nch i)) (Φ := chunkRes d i feat keys qf s s) (Ψ := chunkRes d i feat keys qf (s + 1) s)
          fun j hj => chunkRes_gather_other s (by have := Finset.mem_range.mp hj; omega) (.inr (by omega))]
    rw [e]
    iintro ⟨Hst, Hk⟩
    iapply Hk; iexact Hst

/-- A write step moves the write clock on. -/
theorem wp_writeStepAt (t : Fin k0_t1_loop.trips) (b : Fin 7) (rest : TileProg F i α) (Q : α → sProp 𝕄) :
    iprop(state d i feat keys qf O W (stepNo t b + 1) (stepNo t b) ∗ (state d i feat keys qf O W (stepNo t b + 1) (stepNo t b + 1) -∗ wpT d i rest Q))
      ⊢ wpT d i (writeP i (b + 1) (condW i t b) (offO i t b) (offO_inb i t b) rest) Q := by
  by_cases hW : condW i t b = 1#1
  · obtain ⟨h6, hn⟩ := (condW_iff i t b).mp hW
    have hbd := nch_bound i _ hn
    have hsb := slotOf_write t b h6
    have hoff := offO_eq i t b hW
    generalize hs : stepNo t b = s at *
    unfold state
    iintro ⟨⟨#Hmw, HO, Hch, Hsl⟩, Hk⟩
    ihave Hch := (bigSep_at (a := s - 6) (Φ := chunkRes d i feat keys qf (s + 1) s) (Ψ := chunkRes d i feat keys qf (s + 1) (s + 1))
      (Finset.mem_range.mpr hn) (fun j _ hj => chunkRes_write_other s (by omega))) $$ Hch
    rw [chunkRes_gathering (j := s - 6) (by omega) (by omega), chunkRes_writing (j := s - 6) (by omega) (by omega) (.inl (by omega))]
    unfold gathering writing
    rw [hsb]
    icases Hch with ⟨⟨Hfl, Hso, Ho⟩, Hback⟩
    iapply (wp_writeStep d i feat keys qf (b + 1) (s - 6) hbd (condW i t b) hW (offO i t b) hoff (offO_inb i t b) (O := O) (W := W)) $$ [-]
    isplitl [Hfl]; · iexact Hfl
    isplitl [Hso]; · iexact Hso
    isplitl [Ho]; · iexact Ho
    isplitl [HO]; · iexact HO
    isplitr; · iexact Hmw
    iintro ⟨Hfl, Hsg, Hf, Hl, HO⟩
    iapply Hk
    isplitr; · iexact Hmw
    isplitl [HO]; · iexact HO
    isplitr [Hsl]
    · iapply Hback
      isplitl [Hfl]; · iexact Hfl
      isplitl [Hsg]; · iexact Hsg
      isplitl [Hf]; · iexact Hf
      iexact Hl
    · iexact Hsl
  · have hn := mt (condW_iff i t b).mpr hW
    unfold writeP
    rw [dif_neg hW]
    generalize hs : stepNo t b = s at *
    have e : state d i feat keys qf O W (s + 1) s = state d i feat keys qf O W (s + 1) (s + 1) := by
      unfold state
      rw [bigSep_congr (s := Finset.range (nch i)) (Φ := chunkRes d i feat keys qf (s + 1) s) (Ψ := chunkRes d i feat keys qf (s + 1) (s + 1))
          fun j hj => chunkRes_write_other s (by have := Finset.mem_range.mp hj; omega)]
    rw [e]
    iintro ⟨Hst, Hk⟩
    iapply Hk; iexact Hst

/-- One of the seven steps of a trip. -/
theorem wp_step (t : Fin k0_t1_loop.trips) (b : Fin 7) (s : Nat) (hs : s = 7 * t.val + b.val) (rest : TileProg F i α) (Q : α → sProp 𝕄)
    (h : state d i feat keys qf O W (s + 1) (s + 1) ⊢ wpT d i rest Q) :
    state d i feat keys qf O W s s ⊢ wpT d i (stepP i t b rest) Q := by
  obtain rfl : s = stepNo t b := hs
  unfold stepP
  refine BIBase.Entails.trans ?_ (wp_gatherStep d i feat keys qf O W t b _ Q)
  iintro Hst
  isplitl [Hst]; · iexact Hst
  iintro Hst
  iapply (wp_writeStepAt d i feat keys qf O W t b rest Q) $$ [-]
  isplitl [Hst]; · iexact Hst
  iintro Hst
  iapply h; iexact Hst

/-- Returning. -/
theorem wp_done (a : α) (P : sProp 𝕄) (Q : α → sProp 𝕄) (h : P ⊢ Q a) : P ⊢ wpT d i (pure a) Q := by
  unfold wpT
  rw [wp_pure]
  exact BIBase.Entails.trans h fupd_intro

attribute [local irreducible] stepP

/-- A trip. -/
theorem wp_trip (t : Fin k0_t1_loop.trips) (v2 v5 : BitVec 32) (u : Unit) :
    state d i feat keys qf O W (7 * t.val) (7 * t.val)
      ⊢ wpT d i (k0_t1_body (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1 v2 v5 t u)
          fun _ => state d i feat keys qf O W (7 * (t.val + 1)) (7 * (t.val + 1)) := by
  rw [trip_eq]
  unfold wpT
  rw [wp_bind]
  refine wp_step d i feat keys qf O W t 0 _ (by show _ = 7 * t.val + 0; omega) _ _ ?_
  refine wp_step d i feat keys qf O W t 1 _ (by show _ = 7 * t.val + 1; omega) _ _ ?_
  refine wp_step d i feat keys qf O W t 2 _ (by show _ = 7 * t.val + 2; omega) _ _ ?_
  refine wp_done d i _ _ _ ?_
  rw [wp_bind]
  refine wp_step d i feat keys qf O W t 3 _ (by show _ = 7 * t.val + 3; omega) _ _ ?_
  refine wp_step d i feat keys qf O W t 4 _ (by show _ = 7 * t.val + 4; omega) _ _ ?_
  refine wp_step d i feat keys qf O W t 5 _ (by show _ = 7 * t.val + 5; omega) _ _ ?_
  refine wp_done d i _ _ _ ?_
  refine wp_step d i feat keys qf O W t 6 _ (by show _ = 7 * t.val + 6; omega) _ _ ?_
  exact wp_done d i _ _ _ BIBase.Entails.rfl

end Cert.Proof.Unpool

end
-- ==== Proof.Fetch.lean ====
/-
  The two ends of a tile's run: fetching its keys before the loop (98 chunks of them, or the last tile's 87), and waiting
  for the last seven write-backs after it.
-/
module

public import proofs.«01_k».proof.Proof.State
public import Idealize.ShloMosaic.Lib.SparseCore.FromWhole

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords) {α : Type}

/-! ## The printed ends -/

/-- Fetch all the list. -/
def fetchA (c : BitVec 1) (off : Fin 1 → Nat) (h : c = 1#1 → ∀ a, off a + S12544.size a ≤ S400000.size a) (rest : TileProg F i α) : TileProg F i α :=
  if h' : c = 1#1 then do
    Prog.lift (.enqueueDma (keysM.slice (Rect.unit (s := S400000) off S12544.size (h h')) (fun _ => rfl)) (.here listM) (.dma cc0_scoped0.sem) (View.wordExact_bits rfl) (Memref.isWhole_whole _).wordExact ⟨Or.inl rfl, trivial⟩)
    Prog.lift (.waitDma2 cc0_scoped0.sem (keysM.slice (Rect.unit (s := S400000) off S12544.size (h h')) (fun _ => rfl)) listM (View.wordExact_bits rfl) (Memref.isWhole_whole _).wordExact)
    rest
  else rest

/-- The first 87 chunks of the list. -/
abbrev listHead : Memref sig .scVector .vmem S11136 .i32 := listM.slice (Rect.unit (s := S12544) ![0] S11136.size inb_S12544_S11136_0) (fun _ => rfl)

/-- Fetch the first 87 chunks of the list. -/
def fetchB (c : BitVec 1) (off : Fin 1 → Nat) (h : c = 1#1 → ∀ a, off a + S11136.size a ≤ S400000.size a) (rest : TileProg F i α) : TileProg F i α :=
  if h' : c = 1#1 then do
    Prog.lift (.enqueueDma (keysM.slice (Rect.unit (s := S400000) off S11136.size (h h')) (fun _ => rfl)) (.here listHead) (.dma cc0_scoped1.sem) (View.wordExact_bits rfl) (View.wordExact_bits rfl) ⟨Or.inl rfl, trivial⟩)
    Prog.lift (.waitDma2 cc0_scoped1.sem (keysM.slice (Rect.unit (s := S400000) off S11136.size (h h')) (fun _ => rfl)) listHead (View.wordExact_bits rfl) (View.wordExact_bits rfl))
    rest
  else rest

/-- The wait for the last write-back from slot `b`. -/
abbrev lastWait (b : Fin 7) (rest : TileProg F i α) : TileProg F i α := awaitOut i b ![0, 0] inb_S400000x128_S128x128_0_0 rest

/-- The loop. -/
abbrev loopP : TileProg F i Unit :=
  Scf.Loop.for k0_t1_loop k0_t1_ok ⟨⟩ (k0_t1_body (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1
    (Scalar.muli (Scalar.addi (Scalar.muli (BitVec.ofNat 32 (i 1).val) 2#32) (BitVec.ofNat 32 (i 0).val)) 98#32)
    (Scalar.minsi (Scalar.subi 3125#32 (Scalar.muli (Scalar.addi (Scalar.muli (BitVec.ofNat 32 (i 1).val) 2#32) (BitVec.ofNat 32 (i 0).val)) 98#32)) 98#32))

set_option maxRecDepth 65536 in
theorem part24_eq :
    k0_part24 (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1
      = (fetchA i (k0_cond1 i) (k0_off1 i) (k0_off1_inb i) <| fetchB i (k0_cond2 i) (k0_off2 i) (k0_off2_inb i) <|
          loopP i >>= fun _ => lastWait i 0 (pure ⟨⟩)) := rfl

set_option maxRecDepth 65536 in
theorem part25_eq :
    k0_part25 (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1
      = (lastWait i 1 <| lastWait i 2 <| lastWait i 3 <| lastWait i 4 <| pure ⟨⟩) := rfl

set_option maxRecDepth 65536 in
/-- The kernel is its fetch, its loop and its last waits. -/
theorem kernel_eq :
    cc0_unpool (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1
      = ((fetchA i (k0_cond1 i) (k0_off1 i) (k0_off1_inb i) <| fetchB i (k0_cond2 i) (k0_off2 i) (k0_off2_inb i) <|
          loopP i >>= fun _ => lastWait i 0 (pure PUnit.unit)) >>= fun _ =>
          (lastWait i 1 <| lastWait i 2 <| lastWait i 3 <| lastWait i 4 <| pure PUnit.unit) >>= fun _ =>
          lastWait i 5 <| lastWait i 6 <| pure PUnit.unit) := rfl

/-! ## Fetching -/

variable (feat : S100000x128.Idx → Elt F .f32) (keys : S400000.Idx → BitVec 32) (qf qk : PosShare TreeShare)
variable (O : CellTallies nD τ sig (HIx 1)) (W : Waits sig (HIx 1))

/-- The list with every chunk of the tile fetched. -/
abbrev fetched : sProp 𝕄 := iprop(∃ f, ⌜∀ x : S12544.Idx, (x 0).val < 128 * nch i → f x = list0 keys (wid i) x⌝ ∗ listPts (F := F) d i Finset.univ f)

theorem list0_of_lt (w : Nat) (x : S12544.Idx) (y : S400000.Idx) (h : (y 0).val = 12544 * w + (x 0).val) : keys y = list0 keys w x := by
  have hy : (y 0).val < 400000 := (y 0).isLt
  unfold list0
  rw [dif_pos (by omega)]
  congr 1
  funext a
  match a with
  | 0 => exact Fin.ext h

/-- The fetch of a tile with 98 chunks. -/
theorem wp_fetchA (c : BitVec 1) (hc : c = 1#1) (off : Fin 1 → Nat) (ho : off = ![12544 * wid i]) (hinb : c = 1#1 → ∀ a, off a + S12544.size a ≤ S400000.size a)
    (rest : TileProg F i α) (Q : α → sProp 𝕄) (hw : wid i < 31) :
    iprop(Transfers.MayWaits (tid d i) (default : HIx 1) O ∗ owing d i O W ∗ keysPts (F := F) d i qk keys ∗ (∃ f, listPts (F := F) d i Finset.univ f)
        ∗ semVal (tid d i, .dma cc0_scoped0.sem) 0
        ∗ (iprop(owing d i O W ∗ keysPts (F := F) d i qk keys ∗ fetched d i keys ∗ semVal (tid d i, .dma cc0_scoped0.sem) 0) -∗ wpT d i rest Q))
      ⊢ wpT d i (fetchA i c off hinb rest) Q := by
  subst ho
  iintro ⟨Hmw, ⟨%W', %hW', HO⟩, Hk, ⟨%f, Hl⟩, Hs, Hcont⟩
  unfold fetchA
  rw [dif_pos hc]
  simp only [Prog.bind_lift]
  iapply (Transfers.wp_dmaFromWhole countersEmb 𝒱₀ (tid d i) none (dst := listM) (default : HIx 1) (listM).view.dmaCredit rfl (by decide)
    (Sd := Finset.univ) (Finset.subset_univ _)) $$ [Hk Hl Hs]
  · isplitl [Hk]; · iexact Hk
    isplitl [Hl]; · iexact Hl
    iexact Hs
  iintro Hfl
  iapply (Transfers.wp_waitLocalO countersEmb 𝒱₀ (tid d i) none (default : HIx 1) (rfl : (listM).view.dmaCredit = _)) $$ [Hfl HO Hmw]
  · isplitl [Hfl]; · iexact Hfl
    isplitl [HO]; · iexact HO
    iapply (Transfers.MayWaits.elim (SemLoc.dma cc0_scoped0.sem)) $$ Hmw
  iintro ⟨⟨Hl, Hk⟩, Hs, HO⟩
  iapply Hcont
  isplitl [HO]; · iapply (owing_insert d i hW' _) $$ HO
  isplitl [Hk]; · iexact Hk
  isplitl [Hl]
  · iexists _; isplitr
    swap; · iexact Hl
    ipureintro; intro x _
    rw [View.write_whole_univ]
    exact (View.read_apply _ _).trans (list0_of_lt keys (wid i) x _ (by show 12544 * wid i + 1 * (x 0).val = _; omega))
  iexact Hs

/-- The fetch of the last tile. -/
theorem wp_fetchB (c : BitVec 1) (hc : c = 1#1) (off : Fin 1 → Nat) (ho : off = ![12544 * wid i]) (hinb : c = 1#1 → ∀ a, off a + S11136.size a ≤ S400000.size a)
    (rest : TileProg F i α) (Q : α → sProp 𝕄) (hw : ¬ wid i < 31) :
    iprop(Transfers.MayWaits (tid d i) (default : HIx 1) O ∗ owing d i O W ∗ keysPts (F := F) d i qk keys ∗ (∃ f, listPts (F := F) d i Finset.univ f)
        ∗ semVal (tid d i, .dma cc0_scoped1.sem) 0
        ∗ (iprop(owing d i O W ∗ keysPts (F := F) d i qk keys ∗ fetched d i keys ∗ semVal (tid d i, .dma cc0_scoped1.sem) 0) -∗ wpT d i rest Q))
      ⊢ wpT d i (fetchB i c off hinb rest) Q := by
  subst ho
  iintro ⟨Hmw, ⟨%W', %hW', HO⟩, Hk, ⟨%f, Hl⟩, Hs, Hcont⟩
  unfold fetchB
  rw [dif_pos hc]
  simp only [Prog.bind_lift]
  iapply (Transfers.wp_dmaFromWhole countersEmb 𝒱₀ (tid d i) none (dst := listHead) (default : HIx 1) (listHead).view.dmaCredit rfl (by decide)
    (Sd := Finset.univ) (Finset.subset_univ _)) $$ [Hk Hl Hs]
  · isplitl [Hk]; · iexact Hk
    isplitl [Hl]; · iexact Hl
    iexact Hs
  iintro Hfl
  iapply (Transfers.wp_waitLocalO countersEmb 𝒱₀ (tid d i) none (default : HIx 1) (rfl : (listHead).view.dmaCredit = _)) $$ [Hfl HO Hmw]
  · isplitl [Hfl]; · iexact Hfl
    isplitl [HO]; · iexact HO
    iapply (Transfers.MayWaits.elim (SemLoc.dma cc0_scoped1.sem)) $$ Hmw
  iintro ⟨⟨Hl, Hk⟩, Hs, HO⟩
  iapply Hcont
  isplitl [HO]; · iapply (owing_insert d i hW' _) $$ HO
  isplitl [Hk]; · iexact Hk
  isplitl [Hl]
  · iexists _; isplitr
    swap; · iexact Hl
    ipureintro; intro x hx
    have hx' : (x 0).val < 11136 := by unfold nch at hx; rw [if_neg hw] at hx; omega
    have ex : x = (listHead).view.emb (ix1 (n := 11136) ⟨(x 0).val, hx'⟩) := by
      funext a
      match a with
      | 0 => exact Fin.ext (by show (x 0).val = 0 + 1 * (x 0).val; omega)
    generalize ix1 (n := 11136) ⟨(x 0).val, hx'⟩ = y at ex
    subst ex
    rw [View.write_emb_of_mem _ _ (Finset.mem_univ y)]
    refine (cast_eq _ _).trans ((View.read_apply _ _).trans ?_)
    exact list0_of_lt keys (wid i) _ _ (by show 12544 * wid i + 1 * (y 0).val = 12544 * wid i + (0 + 1 * (y 0).val); omega)
  iexact Hs

/-- The fetch, whichever tile. -/
theorem wp_fetch (rest : TileProg F i α) (Q : α → sProp 𝕄) :
    iprop(Transfers.MayWaits (tid d i) (default : HIx 1) O ∗ owing d i O W ∗ keysPts (F := F) d i qk keys ∗ (∃ f, listPts (F := F) d i Finset.univ f)
        ∗ semVal (tid d i, .dma cc0_scoped0.sem) 0 ∗ semVal (tid d i, .dma cc0_scoped1.sem) 0
        ∗ (iprop(owing d i O W ∗ keysPts (F := F) d i qk keys ∗ fetched d i keys ∗ semVal (tid d i, .dma cc0_scoped0.sem) 0 ∗ semVal (tid d i, .dma cc0_scoped1.sem) 0)
            -∗ wpT d i rest Q))
      ⊢ wpT d i (fetchA i (k0_cond1 i) (k0_off1 i) (k0_off1_inb i) <| fetchB i (k0_cond2 i) (k0_off2 i) (k0_off2_inb i) rest) Q := by
  by_cases hw : wid i < 31
  · iintro ⟨Hmw, HO, Hk, Hl, Hs0, Hs1, Hcont⟩
    iapply (wp_fetchA d i keys qk O W _ ((cond1_iff i).mpr hw) _ (off1_eq i) _ _ Q hw) $$ [-]
    isplitl [Hmw]; · iexact Hmw
    isplitl [HO]; · iexact HO
    isplitl [Hk]; · iexact Hk
    isplitl [Hl]; · iexact Hl
    isplitl [Hs0]; · iexact Hs0
    iintro ⟨HO, Hk, Hl, Hs0⟩
    unfold fetchB
    rw [dif_neg (mt (cond2_iff i).mp (not_not.mpr hw))]
    iapply Hcont
    isplitl [HO]; · iexact HO
    isplitl [Hk]; · iexact Hk
    isplitl [Hl]; · iexact Hl
    isplitl [Hs0] <;> iassumption
  · iintro ⟨Hmw, HO, Hk, Hl, Hs0, Hs1, Hcont⟩
    unfold fetchA
    rw [dif_neg (mt (cond1_iff i).mp hw)]
    iapply (wp_fetchB d i keys qk O W _ ((cond2_iff i).mpr hw) _ (off2_eq i) _ _ Q hw) $$ [-]
    isplitl [Hmw]; · iexact Hmw
    isplitl [HO]; · iexact HO
    isplitl [Hk]; · iexact Hk
    isplitl [Hl]; · iexact Hl
    isplitl [Hs1]; · iexact Hs1
    iintro ⟨HO, Hk, Hl, Hs1⟩
    iapply Hcont
    isplitl [HO]; · iexact HO
    isplitl [Hk]; · iexact Hk
    isplitl [Hl]; · iexact Hl
    isplitl [Hs0] <;> iassumption

/-! ## The loop -/

attribute [local irreducible] state k0_t1_body in
theorem wp_loop (rest : TileProg F i α) (Q : α → sProp 𝕄) (R : sProp 𝕄) (h : iprop(state d i feat keys qf O W 105 105 ∗ R) ⊢ wpT d i rest Q) :
    iprop(state d i feat keys qf O W 0 0 ∗ R) ⊢ wpT d i (loopP i >>= fun _ => rest) Q := by
  have hb := Scf.wp_for_bind frame (wpE (defs₀ (F := F)) 𝒱₀ (tid d i) none) Set.univ _ _ _ k0_t1_ok ⟨⟩ (k0_t1_body (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1
      (Scalar.muli (Scalar.addi (Scalar.muli (BitVec.ofNat 32 (i 1).val) 2#32) (BitVec.ofNat 32 (i 0).val)) 98#32)
      (Scalar.minsi (Scalar.subi 3125#32 (Scalar.muli (Scalar.addi (Scalar.muli (BitVec.ofNat 32 (i 1).val) 2#32) (BitVec.ofNat 32 (i 0).val)) 98#32)) 98#32))
    (fun k _ => state d i feat keys qf O W (7 * k) (7 * k)) (fun k u => wp_trip d i feat keys qf O W k _ _ u) (kk := fun _ => rest) (Q := Q)
  rw [show (7 * Scf.trips k0_t1_loop.lb k0_t1_loop.ub k0_t1_loop.st) = 105 from by rw [show Scf.trips k0_t1_loop.lb k0_t1_loop.ub k0_t1_loop.st = 15 from trips_eq]] at hb
  iintro ⟨Hst, HR⟩
  iapply hb $$ Hst
  iintro %_ Hst
  iapply h
  isplitl [Hst] <;> iassumption

end Cert.Proof.Unpool

end
-- ==== Proof.Tile.lean ====
/-
  One tile's whole run: its buffers cut into chunks and slots, the fetch, the loop, the last seven waits, and the buffers
  put together again. The result's rows of the tile come back holding the final result.
-/
module

public import proofs.«01_k».proof.Proof.Fetch

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords) {α : Type}
variable (feat : S100000x128.Idx → Elt F .f32) (keys : S400000.Idx → BitVec 32) (qf qk : PosShare TreeShare)
variable (O : CellTallies nD τ sig (HIx 1)) (W : Waits sig (HIx 1))

/-! ## The last waits -/

theorem nch_seven : 7 ≤ nch i := by unfold nch; split <;> omega
theorem nch_le : nch i ≤ 98 := by unfold nch; split <;> omega

/-- Chunk `j` after the waits for the slots below `k`. -/
def lastRes (k j : Nat) : sProp 𝕄 := if nch i ≤ j + 7 ∧ k ≤ (slotOf j).val then writing d i feat keys qf j else finished d i feat keys j

/-- Slot `b` after the waits for the slots below `k`. -/
def lastSlot (k : Nat) (b : Fin 7) : sProp 𝕄 := if b.val < k then freeSlot d i feat qf b else iprop(emp)

def lastState (k : Nat) : sProp 𝕄 :=
  iprop(Transfers.MayWaits (tid d i) (default : HIx 1) O ∗ owing d i O W
    ∗ bigSep (Finset.range (nch i)) (lastRes d i feat keys qf k) ∗ bigSep Finset.univ (lastSlot d i feat qf k))

/-- After the loop no wait has been made. -/
theorem state_last : state d i feat keys qf O W 105 105 = lastState d i feat keys qf O W 0 := by
  have h98 := nch_le i
  unfold state lastState
  rw [bigSep_congr (s := Finset.range (nch i)) (Φ := chunkRes d i feat keys qf 105 105) (Ψ := lastRes d i feat keys qf 0) fun j hj => ?_,
    bigSep_congr (s := Finset.univ) (Φ := slotLeft d i feat qf 105) (Ψ := lastSlot d i feat qf 0) fun b _ => ?_]
  · exact (slotLeft_emp (by have := b.isLt; omega)).trans (if_neg (by omega)).symm
  · have hj' := Finset.mem_range.mp hj
    unfold chunkRes lastRes
    rw [if_neg (by omega), if_neg (by omega)]
    exact if_congr (by omega) rfl rfl

/-- The last chunk in slot `b`. -/
def lastChunk (b : Fin 7) : Nat := nch i - 7 + (b.val + 7 - nch i % 7) % 7

theorem lastChunk_lt (b : Fin 7) : lastChunk i b < nch i := by have := nch_seven i; unfold lastChunk; omega
theorem lastChunk_ge (b : Fin 7) : nch i ≤ lastChunk i b + 7 := by unfold lastChunk; omega
theorem lastChunk_slot (b : Fin 7) : slotOf (lastChunk i b) = b :=
  Fin.ext (by show lastChunk i b % 7 = b.val; have := nch_seven i; have := b.isLt; unfold lastChunk; omega)
theorem lastChunk_unique (b : Fin 7) (j : Nat) (hj : j < nch i) (hj' : nch i ≤ j + 7) (hb : slotOf j = b) : j = lastChunk i b := by
  have h1 := lastChunk_lt i b
  have h2 := lastChunk_ge i b
  have h3 : lastChunk i b % 7 = b.val := congrArg Fin.val (lastChunk_slot i b)
  have h4 : j % 7 = b.val := congrArg Fin.val hb
  omega

/-- The wait for slot `b`'s last write-back. -/
theorem wp_lastWait (b : Fin 7) (rest : TileProg F i α) (Q : α → sProp 𝕄) :
    iprop(lastState d i feat keys qf O W b.val ∗ (lastState d i feat keys qf O W (b.val + 1) -∗ wpT d i rest Q)) ⊢ wpT d i (lastWait i b rest) Q := by
  have hs := lastChunk_slot i b
  have hsv : (slotOf (lastChunk i b)).val = b.val := congrArg Fin.val hs
  have hge := lastChunk_ge i b
  unfold lastState
  iintro ⟨⟨#Hmw, HO, Hch, Hsl⟩, Hk⟩
  ihave Hch := (bigSep_at (a := lastChunk i b) (Φ := lastRes d i feat keys qf b.val) (Ψ := lastRes d i feat keys qf (b.val + 1))
    (Finset.mem_range.mpr (lastChunk_lt i b)) (fun j hj hne => by
      unfold lastRes
      refine if_congr ?_ rfl rfl
      refine and_congr_right fun hj' => ?_
      have : (slotOf j).val ≠ b.val := fun e => hne (lastChunk_unique i b j (Finset.mem_range.mp hj) hj' (Fin.ext e))
      omega)) $$ Hch
  ihave Hsl := (bigSep_at (a := b) (Φ := lastSlot d i feat qf b.val) (Ψ := lastSlot d i feat qf (b.val + 1))
    (Finset.mem_univ b) (fun c _ hc => by
      unfold lastSlot
      have : c.val ≠ b.val := fun e => hc (Fin.ext e)
      exact if_congr (by omega) rfl rfl)) $$ Hsl
  rw [show lastRes d i feat keys qf b.val (lastChunk i b) = writing d i feat keys qf (lastChunk i b) from if_pos ⟨hge, by omega⟩,
    show lastRes d i feat keys qf (b.val + 1) (lastChunk i b) = finished d i feat keys (lastChunk i b) from if_neg (by omega),
    show lastSlot d i feat qf b.val b = iprop(emp) from if_neg (by omega),
    show lastSlot d i feat qf (b.val + 1) b = freeSlot d i feat qf b from if_pos (by omega)]
  unfold writing finished freeSlot
  rw [hs]
  icases Hch with ⟨⟨Hfl, Hsg, Hf, Hl⟩, Hback⟩
  icases Hsl with ⟨-, Hback'⟩
  iapply (wp_awaitOut d i feat keys b (lastChunk i b) ![0, 0] _ (O := O) (W := W)) $$ [-]
  isplitl [Hfl]; · iexact Hfl
  isplitl [HO]; · iexact HO
  isplitr; · iexact Hmw
  iintro ⟨Ho, Hr, Hso, HO⟩
  iapply Hk
  isplitr; · iexact Hmw
  isplitl [HO]; · iexact HO
  isplitl [Hback Ho Hl]
  · iapply Hback
    isplitl [Ho] <;> iassumption
  · iapply Hback'
    isplitl [Hr]; · iexact Hr
    isplitl [Hsg]; · iexact Hsg
    isplitl [Hso]; · iexact Hso
    iexact Hf

theorem wp_lastWait' (b : Fin 7) (k : Nat) (hk : k = b.val) (rest : TileProg F i α) (Q : α → sProp 𝕄) (R : sProp 𝕄)
    (h : iprop(lastState d i feat keys qf O W (k + 1) ∗ R) ⊢ wpT d i rest Q) : iprop(lastState d i feat keys qf O W k ∗ R) ⊢ wpT d i (lastWait i b rest) Q := by
  subst hk
  refine BIBase.Entails.trans ?_ (wp_lastWait d i feat keys qf O W b rest Q)
  iintro ⟨Hst, HR⟩
  isplitl [Hst]; · iexact Hst
  iintro Hst
  iapply h
  isplitl [Hst] <;> iassumption

attribute [local irreducible] lastState state awaitOut in
/-- The loop and the last waits. -/
theorem wp_afterFetch (Q : Unit → sProp 𝕄) (R : sProp 𝕄) (h : iprop(lastState d i feat keys qf O W 7 ∗ R) ⊢ Q ⟨⟩) :
    iprop(state d i feat keys qf O W 0 0 ∗ R) ⊢ wpT d i (loopP i >>= fun _ => lastWait i 0 (pure PUnit.unit)) fun _ =>
      wpT d i ((lastWait i 1 <| lastWait i 2 <| lastWait i 3 <| lastWait i 4 <| pure PUnit.unit) >>= fun _ => lastWait i 5 <| lastWait i 6 <| pure PUnit.unit) Q := by
  refine wp_loop d i feat keys qf O W _ _ R ?_
  rw [state_last]
  refine wp_lastWait' d i feat keys qf O W 0 0 rfl _ _ R ?_
  refine wp_done d i _ _ _ ?_
  unfold wpT
  rw [wp_bind]
  refine wp_lastWait' d i feat keys qf O W 1 1 rfl _ _ R ?_
  refine wp_lastWait' d i feat keys qf O W 2 2 rfl _ _ R ?_
  refine wp_lastWait' d i feat keys qf O W 3 3 rfl _ _ R ?_
  refine wp_lastWait' d i feat keys qf O W 4 4 rfl _ _ R ?_
  refine wp_done d i _ _ _ ?_
  refine wp_lastWait' d i feat keys qf O W 5 5 rfl _ _ R ?_
  refine wp_lastWait' d i feat keys qf O W 6 6 rfl _ _ R ?_
  exact wp_done d i _ _ _ h

/-! ## Cutting the tile's buffers, and putting them together -/

theorem listSet_disjoint (s : Finset Nat) : ∀ j ∈ s, ∀ j' ∈ s, j ≠ j' → Disjoint (listSet j) (listSet j') := by
  intro j _ j' _ hne
  refine Finset.disjoint_left.mpr fun x hx hx' => hne ?_
  have := mem_listSet.mp hx; have := mem_listSet.mp hx'
  omega

theorem outSet_disjoint (r : Nat) (s : Finset Nat) : ∀ j ∈ s, ∀ j' ∈ s, j ≠ j' → Disjoint (outSet (r + 128 * j) 128) (outSet (r + 128 * j') 128) := by
  intro j _ j' _ hne
  refine Finset.disjoint_left.mpr fun x hx hx' => hne ?_
  have := mem_outSet.mp hx; have := mem_outSet.mp hx'
  omega

theorem outSet_chunks (r n : Nat) : (Finset.range n).biUnion (fun j => outSet (r + 128 * j) 128) = outSet r (128 * n) := by
  ext x
  simp only [Finset.mem_biUnion, Finset.mem_range, mem_outSet]
  refine ⟨fun ⟨j, hj, h⟩ => by omega, fun h => ⟨((x 0).val - r) / 128, by omega, by omega⟩⟩

theorem slotSet_disjoint : ∀ b ∈ (Finset.univ : Finset (Fin 7)), ∀ b' ∈ (Finset.univ : Finset (Fin 7)), b ≠ b' → Disjoint (slotSet b) (slotSet b') := by
  intro b _ b' _ hne
  refine Finset.disjoint_left.mpr fun x hx hx' => hne (Fin.ext ?_)
  rw [← mem_slotSet.mp hx, ← mem_slotSet.mp hx']

theorem slotSet_all : (Finset.univ : Finset (Fin 7)).biUnion slotSet = Finset.univ := by
  ext x
  simp only [Finset.mem_biUnion, Finset.mem_univ, true_and, iff_true]
  exact ⟨⟨(x 0).val, (x 0).isLt⟩, mem_slotSet.mpr rfl⟩

abbrev listUsed : Finset S12544.Idx := (Finset.range (nch i)).biUnion listSet

/-- The fetched list is its chunks and what no chunk uses. -/
theorem list_cut : fetched (F := F) d i keys ⊢ iprop(bigSep (Finset.range (nch i)) (chunk0 (F := F) d i keys) ∗ ∃ f, listPts (F := F) d i (Finset.univ \ listUsed i) f) := by
  iintro ⟨%f, %hf, Hl⟩
  ihave Hl := (pointsTo_split_subset (I := listUsed i) (S := Finset.univ) (Finset.subset_univ _)).1 $$ Hl
  icases Hl with ⟨Hl, Hr⟩
  isplitl [Hl]
  · iapply (Entails.of_eq (pointsTo_biUnion (Finset.range (nch i)) listSet (listSet_disjoint _)))
    iapply (Entails.of_eq (pointsTo_congr (fun x hx => by
      obtain ⟨j, hj, hx⟩ := Finset.mem_biUnion.mp hx
      have hj := Finset.mem_range.mp hj
      have hx := mem_listSet.mp hx
      exact hf x (by omega)))) $$ Hl
  · iexists _; iexact Hr

theorem list_join : iprop(bigSep (Finset.range (nch i)) (chunk1 (F := F) d i keys) ∗ ∃ f, listPts (F := F) d i (Finset.univ \ listUsed i) f)
    ⊢ (iprop(∃ f, listPts (F := F) d i Finset.univ f) : sProp 𝕄) := by
  iintro ⟨Hl, %f, Hr⟩
  ihave Hl := (Entails.of_eq (pointsTo_biUnion (Finset.range (nch i)) listSet (listSet_disjoint _)).symm) $$ Hl
  iexists _
  iapply (pointsTo_join_subset (I := listUsed i) (S := Finset.univ) (Finset.subset_univ _)) $$ [Hl Hr]
  isplitl [Hl] <;> iassumption

/-- The tile's rows of the result are its chunks'. -/
theorem out_chunks (f : S400000x128.Idx → Elt F .f32) :
    outPts d i (outSet (12544 * wid i) (128 * nch i)) f = bigSep (Finset.range (nch i)) fun j => outPts d i (outSet (12544 * wid i + 128 * j) 128) f := by
  rw [← outSet_chunks]
  exact pointsTo_biUnion (Finset.range (nch i)) _ (outSet_disjoint _ _)

theorem out_cut : iprop(∃ f, outPts d i (outSet (12544 * wid i) (128 * nch i)) f) ⊢ bigSep (Finset.range (nch i)) (out0 (F := F) d i) := by
  iintro ⟨%f, Ho⟩
  ihave Ho := (Entails.of_eq (out_chunks d i f)) $$ Ho
  have hm : (bigSep (Finset.range (nch i)) fun j => outPts d i (outSet (12544 * wid i + 128 * j) 128) f) ⊢ (bigSep (Finset.range (nch i)) (out0 (F := F) d i) : sProp 𝕄) :=
    bigSep_mono fun j _ => (show outPts d i (outSet (12544 * wid i + 128 * j) 128) f ⊢ (out0 (F := F) d i j : sProp 𝕄) by iintro H; iexists f; iexact H)
  iapply hm $$ Ho

theorem rows_slots (g : S7x128x128.Idx → Elt F .f32) : rowsPts (F := F) d i Finset.univ g = bigSep Finset.univ fun b => rowsPts (F := F) d i (slotSet b) g := by
  have h : ∀ s, s = (Finset.univ : Finset (Fin 7)).biUnion slotSet → rowsPts (F := F) d i s g = bigSep Finset.univ fun b => rowsPts (F := F) d i (slotSet b) g := by
    intro s hs
    rw [hs]
    have e := pointsTo_biUnion (ℓ := (rowsM).view.loc (tid d i)) (q := fullShare) (f := (g : Buf (Elt F) ((rowsM).view.loc (tid d i)))) (Name := ℕ) (U := UU) (Ix := HIx 1) (Lvl := ℕ)
      (Finset.univ : Finset (Fin 7)) slotSet slotSet_disjoint
    exact e
  exact h _ slotSet_all.symm

theorem rows_cut : iprop(∃ g, rowsPts (F := F) d i Finset.univ g) ⊢ bigSep Finset.univ (slotRes (F := F) d i) := by
  iintro ⟨%g, Hr⟩
  ihave Hr := (Entails.of_eq (rows_slots d i g)) $$ Hr
  have hm : (bigSep Finset.univ fun b => rowsPts (F := F) d i (slotSet b) g) ⊢ (bigSep Finset.univ (slotRes (F := F) d i) : sProp 𝕄) :=
    bigSep_mono fun b _ => (show rowsPts (F := F) d i (slotSet b) g ⊢ (slotRes (F := F) d i b : sProp 𝕄) by iintro H; iexists g; iexact H)
  iapply hm $$ Hr

instance : Nonempty (S7x128x128.Idx → Elt F .f32) := ⟨fun _ => FloatOps.ofBits (F := F) .f32 0⟩

theorem rows_join : bigSep Finset.univ (slotRes (F := F) d i) ⊢ (iprop(∃ g, rowsPts (F := F) d i Finset.univ g) : sProp 𝕄) := by
  iintro Hr
  ihave Hr := (bigSep_exists_pi Finset.univ fun (b : Fin 7) g => rowsPts (F := F) d i (slotSet b) g) $$ Hr
  icases Hr with ⟨%gs, Hr⟩
  ihave Hr := (pointsTo_biUnion_join Finset.univ slotSet gs (gs 0) slotSet_disjoint) $$ Hr
  icases Hr with ⟨%g, -, Hr⟩
  iexists g
  iapply (Entails.of_eq (congrArg (fun s => rowsPts (F := F) d i s g) slotSet_all)) $$ Hr

/-- The free slots are the row buffer, their semaphores at zero, and the tile's share of the table. -/
theorem slots_eq : (bigSep Finset.univ (freeSlot d i feat qf) : sProp 𝕄)
    = iprop(bigSep Finset.univ (slotRes (F := F) d i) ∗ bigSep Finset.univ (fun b => semVal (tid d i, .dma (gsem b)) 0)
        ∗ bigSep Finset.univ (fun b => semVal (tid d i, .dma (osem b)) 0) ∗ featPts d i qf feat) := by
  unfold freeSlot
  rw [bigSep_sep', bigSep_sep', bigSep_sep']
  congr 3
  exact (pointsTo_piecesOf Finset.univ _ seven_pos qf).symm

/-- The loop's start. -/
theorem state_start :
    iprop(Transfers.MayWaits (tid d i) (default : HIx 1) O ∗ owing d i O W ∗ bigSep (Finset.range (nch i)) (chunk0 (F := F) d i keys) ∗ bigSep (Finset.range (nch i)) (out0 (F := F) d i)
        ∗ bigSep Finset.univ (freeSlot d i feat qf)) ⊢ state d i feat keys qf O W 0 0 := by
  unfold state
  rw [bigSep_congr (s := Finset.range (nch i)) (Φ := chunkRes d i feat keys qf 0 0) (Ψ := fun j => iprop(chunk0 (F := F) d i keys j ∗ out0 (F := F) d i j)) fun j _ => chunkRes_todo (Nat.zero_le j),
    bigSep_congr (s := Finset.univ) (Φ := slotLeft d i feat qf 0) (Ψ := freeSlot d i feat qf) fun b _ => slotLeft_free (Nat.zero_le _), bigSep_sep' (Finset.range (nch i))]
  iintro ⟨Hmw, HO, Hl, Ho, Hs⟩
  isplitl [Hmw]; · iexact Hmw
  isplitl [HO]; · iexact HO
  isplitl [Hl Ho]
  · isplitl [Hl] <;> iassumption
  iexact Hs

/-- The end, all seven waits done. -/
theorem state_end :
    lastState d i feat keys qf O W 7 ⊢ iprop(owing d i O W ∗ outPts d i (outSet (12544 * wid i) (128 * nch i)) (finalOut feat keys) ∗ bigSep (Finset.range (nch i)) (chunk1 (F := F) d i keys)
        ∗ bigSep Finset.univ (freeSlot d i feat qf)) := by
  unfold lastState
  rw [bigSep_congr (s := Finset.range (nch i)) (Φ := lastRes d i feat keys qf 7) (Ψ := fun j => iprop(out1 d i feat keys j ∗ chunk1 (F := F) d i keys j))
      fun j _ => if_neg (by have := (slotOf j).isLt; omega),
    bigSep_congr (s := Finset.univ) (Φ := lastSlot d i feat qf 7) (Ψ := freeSlot d i feat qf) fun b _ => if_pos b.isLt, bigSep_sep' (Finset.range (nch i)), out_chunks]
  iintro ⟨-, HO, ⟨Ho, Hl⟩, Hs⟩
  isplitl [HO]; · iexact HO
  isplitl [Ho]; · iexact Ho
  isplitl [Hl] <;> iassumption

/-! ## The tile's semaphores and buffers -/

/-- The kernel's semaphores: two of every slot and the two of the fetch. -/
def kernelSem : (Fin 7 ⊕ Fin 7) ⊕ (Unit ⊕ Unit) → DmaSem sig
  | .inl (.inl b) => gsem b
  | .inl (.inr b) => osem b
  | .inr (.inl _) => cc0_scoped0.sem
  | .inr (.inr _) => cc0_scoped1.sem

theorem kernelSem_inj : ∀ a b, kernelSem a = kernelSem b → a = b := by decide +kernel
theorem kernelSem_scoped : ∀ a, (SemLoc.dma (kernelSem a) : SemLoc sig).isScoped .scVector = true := by decide +kernel

abbrev otherCells : Finset (GSem nD τ sig) := ownCells (tid d i) \ Finset.univ.image fun a => (tid d i, .dma (kernelSem a))

theorem ownSems0_V :
    (ownSems0 (tid d i) : sProp 𝕄)
      = iprop(((bigSep Finset.univ (fun b => semVal (tid d i, .dma (gsem b)) 0) ∗ bigSep Finset.univ (fun b => semVal (tid d i, .dma (osem b)) 0))
          ∗ (semVal (tid d i, .dma cc0_scoped0.sem) 0 ∗ semVal (tid d i, .dma cc0_scoped1.sem) 0)) ∗ bigSep (otherCells d i) fun g => semVal g 0) := by
  unfold SparseCore.Cfg.ownSems0
  rw [SparseCore.bigSep_sdiff_split' (t := Finset.univ.image fun a => ((tid d i, .dma (kernelSem a)) : GSem nD τ sig)) (fun g hg => by
      obtain ⟨a, -, rfl⟩ := Finset.mem_image.mp hg
      exact mem_ownCells.mpr ⟨rfl, kernelSem_scoped a⟩),
    SparseCore.bigSep_image_of_injOn (f := fun a => ((tid d i, .dma (kernelSem a)) : GSem nD τ sig)) (fun a _ b _ e => kernelSem_inj a b (SemLoc.dma.inj (Prod.mk.inj e).2)),
    bigSep_univ_sum, bigSep_univ_sum, bigSep_univ_sum, bigSep_univ_of_subsingleton (), bigSep_univ_of_subsingleton ()]
  rfl

theorem ownBufs_V :
    (ownBufs (tid d i) : sProp 𝕄)
      = iprop((∃ f, listPts (F := F) d i Finset.univ f) ∗ (∃ g, rowsPts (F := F) d i Finset.univ g)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]
  rfl

/-! ## The tile -/

/-- What a tile is handed: shares of the table and of the keys, and its rows of the result. -/
abbrev tileGo : sProp 𝕄 := iprop(featPts d i qf feat ∗ keysPts (F := F) d i qk keys ∗ ∃ f, outPts d i (outSet (12544 * wid i) (128 * nch i)) f)
/-- What it hands back: the shares, and its rows of the final result. -/
abbrev tileTd : sProp 𝕄 := iprop(featPts d i qf feat ∗ keysPts (F := F) d i qk keys ∗ outPts d i (outSet (12544 * wid i) (128 * nch i)) (finalOut feat keys))

theorem tile_body (hF : (K (F := F)).Facts) (hO : ∀ g, O g none = 0) :
    iprop(levAts (K (F := F)).L (K (F := F)).lev ∗ emp ∗ tileGo d i feat keys qf qk
        ∗ scopedBufs (tid d i) ∗ scopedSems0 (tid d i) ∗ owes (tid d i) O W)
      ⊢ wpT d i (cc0_unpool (F := F) i featM (Memref.isWhole_whole _) keysM (Memref.isWhole_whole _) outM (Memref.isWhole_whole _) listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1)
          fun _ => iprop(tileTd d i feat keys qf qk
            ∗ scopedBufs (tid d i) ∗ scopedSems0 (tid d i)
            ∗ ∃ W', ⌜∀ p ∈ W', p ∈ W ∨ p.2 = none⌝ ∗ owes (tid d i) O W') := by
  rw [kernel_eq, (K (F := F)).scopedBufs_V hF d (cV i) (jV i), SparseCore.Cfg.scopedSems0_V (Val := Elt F) d (cV i) (jV i), ownSems0_V, ownBufs_V]
  iintro ⟨#Hlv, -, ⟨Hf, Hk, Ho⟩, ⟨Hl, Hr, Hbufs⟩, ⟨⟨⟨Hg, Hw⟩, Hs0, Hs1⟩, Hsems⟩, HO⟩
  ihave #Hmw := (show levAts (K (F := F)).L (K (F := F)).lev ⊢ Transfers.MayWaits (tid d i) (default : HIx 1) O from
    (K (F := F)).mayWaits_none (thr := tid d i) hO) $$ Hlv
  unfold wpT
  rw [wp_bind]
  iapply (wp_fetch d i keys qk O W _ _) $$ [-]
  isplitr; · iexact Hmw
  isplitl [HO]
  · iexists W; isplitr
    · ipureintro; exact fun p hp => .inl hp
    · iexact HO
  isplitl [Hk]; · iexact Hk
  isplitl [Hl]; · iexact Hl
  isplitl [Hs0]; · iexact Hs0
  isplitl [Hs1]; · iexact Hs1
  iintro ⟨HO, Hk, Hl, Hs0, Hs1⟩
  ihave Hl := (list_cut d i keys) $$ Hl
  icases Hl with ⟨Hl, Hl'⟩
  ihave Ho := (out_cut d i) $$ Ho
  ihave Hr := (rows_cut d i) $$ Hr
  ihave Hs := (Entails.of_eq (slots_eq d i feat qf).symm) $$ [Hr Hg Hw Hf]
  · isplitl [Hr]; · iexact Hr
    isplitl [Hg]; · iexact Hg
    isplitl [Hw]; · iexact Hw
    iexact Hf
  ihave Hst := (state_start d i feat keys qf O W) $$ [HO Hl Ho Hs]
  · isplitr; · iexact Hmw
    isplitl [HO]; · iexact HO
    isplitl [Hl]; · iexact Hl
    isplitl [Ho] <;> iassumption
  iapply (wp_afterFetch d i feat keys qf O W _ (iprop(keysPts (F := F) d i qk keys ∗ (∃ f, listPts (F := F) d i (Finset.univ \ listUsed i) f)
      ∗ semVal (tid d i, .dma cc0_scoped0.sem) 0 ∗ semVal (tid d i, .dma cc0_scoped1.sem) 0 ∗ bigSep (otherCells d i) (fun g => semVal g 0)
      ∗ bigSep (((ownRefs (τ := τ) (.scVector (cV i) (jV i))).erase ((Proc.scVector (cV i) (jV i)).devRef cc0_scratch0)).erase
              ((Proc.scVector (cV i) (jV i)).devRef cc0_scratch1)) fun b => iprop(∃ f, ((d, b) : Loc nD τ sig) ↦{fullShare} f))) ?_) $$ [-]
  · refine BIBase.Entails.trans (sep_mono (state_end d i feat keys qf O W) BIBase.Entails.rfl) ?_
    rw [slots_eq]
    iintro ⟨⟨⟨%W', %hW', HO⟩, Ho, Hl, Hr, Hg, Hw, Hf⟩, Hk, Hl', Hs0, Hs1, Hsems, Hbufs⟩
    ihave Hl := (list_join (F := F) d i keys) $$ [Hl Hl']
    · isplitl [Hl] <;> iassumption
    ihave Hr := (rows_join (F := F) d i) $$ Hr
    isplitl [Hf Hk Ho]
    · isplitl [Hf]; · iexact Hf
      isplitl [Hk] <;> iassumption
    isplitl [Hl Hr Hbufs]
    · isplitl [Hl]; · iexact Hl
      isplitl [Hr] <;> iassumption
    isplitl [Hg Hw Hs0 Hs1 Hsems]
    · isplitl [Hg Hw Hs0 Hs1]
      · isplitl [Hg Hw]
        · isplitl [Hg] <;> iassumption
        · isplitl [Hs0] <;> iassumption
      · iexact Hsems
    iexists W'; isplitr
    · ipureintro; exact hW'
    · iexact HO
  isplitl [Hst]; · iexact Hst
  isplitl [Hk]; · iexact Hk
  isplitl [Hl']; · iexact Hl'
  isplitl [Hs0]; · iexact Hs0
  isplitl [Hs1]; · iexact Hs1
  isplitl [Hsems] <;> iassumption

end Cert.Proof.Unpool

end
-- ==== Proof.Launch.lean ====
/-
  The launch. The one call takes the table, the keys and the result; each of the 32 tiles gets a share of the table and
  of the keys and its own rows of the result, and brings them back. The run ends with the arguments unchanged and the
  result final.
-/
module

public import proofs.«01_k».proof.Proof.Tile

@[expose] public section

noncomputable section

namespace Cert.Proof.Unpool

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The 32 tiles -/

theorem nCore_zero : (K (F := F)).nCore 0 = grid0.bound 0 := rfl
theorem nSub_zero : (K (F := F)).nSub 0 = grid0.bound 1 := rfl

def coordsV (c : Fin (grid0.bound 0)) (s : Fin (grid0.bound 1)) : grid0.Coords :=
  fun | 0 => c | 1 => s | ⟨_ + 2, h⟩ => absurd h (Nat.not_lt.2 (Nat.le_add_left _ _))

/-- The grid point of core `c`, subcore `s` of the call. -/
abbrev at2 (c : Fin ((K (F := F)).nCore 0)) (s : Fin ((K (F := F)).nSub 0)) : grid0.Coords := coordsV (Fin.cast nCore_zero c) (Fin.cast nSub_zero s)

/-- The number of a tile, among 32. -/
def tileNo (i : grid0.Coords) : Fin 32 := ⟨wid i, wid_lt i⟩

theorem thirtyTwo_pos : 0 < 32 := by decide

/-- A tile's share of the table and of the keys. -/
abbrev tileShare (i : grid0.Coords) : PosShare TreeShare := pieceOf fullShare 32 thirtyTwo_pos (tileNo i)

/-- Cores and subcores count the tiles. -/
def tileEquiv : Fin ((K (F := F)).nCore 0) × Fin ((K (F := F)).nSub 0) ≃ Fin 32 :=
  (Equiv.prodComm _ _).trans (finProdFinEquiv (m := 16) (n := 2))

theorem tileEquiv_apply (p : Fin ((K (F := F)).nCore 0) × Fin ((K (F := F)).nSub 0)) : tileEquiv p = tileNo (at2 p.1 p.2) :=
  Fin.ext (show p.1.val + 2 * p.2.val = 2 * p.2.val + p.1.val from Nat.add_comm _ _)

/-- A family over the tiles, core by core. -/
theorem bigSep_tiles (Φ : Fin 32 → sProp 𝕄) :
    bigSep Finset.univ Φ = bigSep Finset.univ fun c : Fin ((K (F := F)).nCore 0) => bigSep Finset.univ fun s : Fin ((K (F := F)).nSub 0) => Φ (tileNo (at2 c s)) := by
  rw [bigSep_univ_equiv (tileEquiv (F := F)), bigSep_univ_prod]
  exact bigSep_congr fun c _ => bigSep_congr fun s _ => congrArg Φ (tileEquiv_apply (c, s))

/-! ## What the tiles get of the arrays -/

/-- The rows of tile `w`. -/
def tileRows (w : Fin 32) : Finset S400000x128.Idx := outSet (12544 * w.val) (128 * if w.val < 31 then 98 else 87)

theorem tileRows_disjoint : ∀ w ∈ (Finset.univ : Finset (Fin 32)), ∀ w' ∈ (Finset.univ : Finset (Fin 32)), w ≠ w' → Disjoint (tileRows w) (tileRows w') := by
  intro w _ w' _ hne
  refine Finset.disjoint_left.mpr fun x hx hx' => hne (Fin.ext ?_)
  have h := mem_outSet.mp hx
  have h' := mem_outSet.mp hx'
  have := w.isLt; have := w'.isLt
  split at h <;> split at h' <;> omega

theorem tileRows_all : (Finset.univ : Finset (Fin 32)).biUnion tileRows = Finset.univ := by
  ext x
  simp only [Finset.mem_biUnion, Finset.mem_univ, true_and, iff_true]
  have hx : (x 0).val < 400000 := (x 0).isLt
  refine ⟨⟨(x 0).val / 12544, by omega⟩, mem_outSet.mpr ?_⟩
  show 12544 * ((x 0).val / 12544) ≤ (x 0).val ∧ (x 0).val < 12544 * ((x 0).val / 12544) + 128 * if (x 0).val / 12544 < 31 then 98 else 87
  split <;> omega

abbrev featW (d : Dev nD) : sProp 𝕄 := featLoc d ↦{fullShare} m (featLoc d)
abbrev keysW (d : Dev nD) : sProp 𝕄 := keysLoc d ↦{fullShare} m (keysLoc d)
abbrev levelW (d : Dev nD) : sProp 𝕄 := levelLoc d ↦{fullShare} m (levelLoc d)
abbrev outW (d : Dev nD) (f : Buf (Elt F) (outLoc d)) : sProp 𝕄 := outLoc d ↦{fullShare} f

/-- The final result. -/
abbrev resultOf (d : Dev nD) : Buf (Elt F) (outLoc d) := finalOut (m (featLoc d)) (m (keysLoc d))

theorem feat_tiles (d : Dev nD) : featW m d = bigSep Finset.univ fun c : Fin ((K (F := F)).nCore 0) => bigSep Finset.univ fun s : Fin ((K (F := F)).nSub 0) =>
    featPts d (at2 c s) (tileShare (at2 c s)) (m (featLoc d)) :=
  (pointsTo_piecesOf Finset.univ (m (featLoc d)) thirtyTwo_pos fullShare).trans (bigSep_tiles _)

theorem keys_tiles (d : Dev nD) : keysW m d = bigSep Finset.univ fun c : Fin ((K (F := F)).nCore 0) => bigSep Finset.univ fun s : Fin ((K (F := F)).nSub 0) =>
    keysPts (F := F) d (at2 c s) (tileShare (at2 c s)) (m (keysLoc d)) :=
  (pointsTo_piecesOf Finset.univ (m (keysLoc d)) thirtyTwo_pos fullShare).trans (bigSep_tiles _)

theorem out_rows (d : Dev nD) (f : Buf (Elt F) (outLoc d)) : outW d f = bigSep Finset.univ fun w : Fin 32 => (outLoc d ↦[tileRows w]{fullShare} f : sProp 𝕄) := by
  have h : ∀ s, s = (Finset.univ : Finset (Fin 32)).biUnion tileRows → (outLoc d ↦[s]{fullShare} f : sProp 𝕄) = bigSep Finset.univ fun w : Fin 32 => (outLoc d ↦[tileRows w]{fullShare} f : sProp 𝕄) := by
    intro s hs
    rw [hs]
    have e := pointsTo_biUnion (ℓ := outLoc d) (q := fullShare) (f := f) (Name := ℕ) (U := UU) (Ix := HIx 1) (Lvl := ℕ)
      (Finset.univ : Finset (Fin 32)) tileRows tileRows_disjoint
    exact e
  exact h _ tileRows_all.symm

theorem out_tiles (d : Dev nD) (f : Buf (Elt F) (outLoc d)) : outW d f = bigSep Finset.univ fun c : Fin ((K (F := F)).nCore 0) => bigSep Finset.univ fun s : Fin ((K (F := F)).nSub 0) =>
    outPts d (at2 c s) (outSet (12544 * wid (at2 c s)) (128 * nch (at2 c s))) f :=
  (out_rows d f).trans (bigSep_tiles _)

/-! ## What the handshakes carry -/

abbrev goT (d : Dev nD) (i : grid0.Coords) : sProp 𝕄 := tileGo d i (m (featLoc d)) (m (keysLoc d)) (tileShare i) (tileShare i)
abbrev tdT (d : Dev nD) (i : grid0.Coords) : sProp 𝕄 := tileTd d i (m (featLoc d)) (m (keysLoc d)) (tileShare i) (tileShare i)

/-- A core carries its tiles'. -/
def P : (K (F := F)).Pay (nD := nD) (Val := Elt F) (Name := ℕ) (U := UU) where
  st := fun q d c => match q with | 0 => bigSep Finset.univ fun s => goT m d (at2 c s)
  dn := fun q d c => match q with | 0 => bigSep Finset.univ fun s => tdT m d (at2 c s)
  go := fun q d c s => match q with | 0 => goT m d (at2 c s)
  td := fun q d c s => match q with | 0 => tdT m d (at2 c s)
  x := fun _ _ => iprop(emp)

instance P_storable : (P (F := F) m).IsStorable where
  st q d c := match q with
    | 0 => (inferInstance : BI.Storable (upEmb : UEmb _ 𝕄) (bigSep Finset.univ fun s => goT m d (at2 c s)))
  dn q d c := match q with
    | 0 => (inferInstance : BI.Storable (upEmb : UEmb _ 𝕄) (bigSep Finset.univ fun s => tdT m d (at2 c s)))
  go q d c s := match q with
    | 0 => (inferInstance : BI.Storable (upEmb : UEmb _ 𝕄) (goT m d (at2 c s)))
  td q d c s := match q with
    | 0 => (inferInstance : BI.Storable (upEmb : UEmb _ 𝕄) (tdT m d (at2 c s)))

/-! ## The tiles' obligation -/

theorem defs₀_vector (c : Fin τ.nSC) (s : Fin τ.nSub) :
    defs₀ (F := F) (.scVector c s) 0 ()
      = SparseCore.onTile hcore0 hsub0 (fun c s => cc0_unpool (F := F) (coordsV c s) featM (Memref.isWhole_whole _) keysM (Memref.isWhole_whole _) outM (Memref.isWhole_whole _)
          listM (Memref.isWhole_whole _) rowsM (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (featLoc d)) (m (keysLoc d)) _ _ O W hF hO).trans (wp_mono frame _ _ fun _ => obl_post)

theorem vecSplit : (K (F := F)).VecSplit' (P m) 0 := by
  intro d c
  show (bigSep Finset.univ fun s => goT m d (at2 c s)) ⊢ |={Set.univ}=> iprop((bigSep Finset.univ fun s => goT m d (at2 c s))
      ∗ ((bigSep Finset.univ fun s => tdT m d (at2 c s)) -∗ bigSep Finset.univ fun s => tdT m d (at2 c s)))
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's program -/

theorem unscopedBufs_eq (d : Dev nD) (W : (b : Ref sig .tc) → Buf (Elt F) ((d.tc : Thread nD τ).loc b)) :
    (unscopedBufs d W : sProp 𝕄) = iprop((featLoc d ↦{fullShare} W main_arg0) ∗ (keysLoc d ↦{fullShare} W main_arg1) ∗ (levelLoc d ↦{fullShare} W main_arg2) ∗ outLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

theorem st_of (d : Dev nD) : iprop(featW m d ∗ keysW m d ∗ outW d (m (outLoc d))) ⊢ (bigSep Finset.univ fun c : Fin ((K (F := F)).nCore 0) => (P m).st 0 d c : sProp 𝕄) := by
  rw [feat_tiles, keys_tiles, out_tiles]
  have hm : iprop((bigSep Finset.univ fun c : Fin ((K (F := F)).nCore 0) => bigSep Finset.univ fun s : Fin ((K (F := F)).nSub 0) => iprop(featPts d (at2 c s) (tileShare (at2 c s)) (m (featLoc d))
      ∗ keysPts (F := F) d (at2 c s) (tileShare (at2 c s)) (m (keysLoc d)) ∗ outPts d (at2 c s) (outSet (12544 * wid (at2 c s)) (128 * nch (at2 c s))) (m (outLoc d)))))
      ⊢ (bigSep Finset.univ fun c : Fin ((K (F := F)).nCore 0) => (P m).st 0 d c : sProp 𝕄) :=
    bigSep_mono fun c _ => bigSep_mono fun s _ => (show iprop(featPts d (at2 c s) (tileShare (at2 c s)) (m (featLoc d))
      ∗ keysPts (F := F) d (at2 c s) (tileShare (at2 c s)) (m (keysLoc d)) ∗ outPts d (at2 c s) (outSet (12544 * wid (at2 c s)) (128 * nch (at2 c s))) (m (outLoc d))) ⊢ (goT m d (at2 c s) : sProp 𝕄) by
      iintro ⟨Hf, Hk, Ho⟩
      isplitl [Hf]; · iexact Hf
      isplitl [Hk]; · iexact Hk
      iexists _; iexact Ho)
  refine BIBase.Entails.trans (Entails.of_eq ?_) hm
  simp only [bigSep_sep']

theorem of_dn (d : Dev nD) : (bigSep Finset.univ fun c : Fin ((K (F := F)).nCore 0) => (P m).dn 0 d c : sProp 𝕄) = iprop(featW m d ∗ keysW m d ∗ outW d (resultOf m d)) := by
  rw [feat_tiles, keys_tiles, out_tiles]
  show (bigSep Finset.univ fun c : Fin ((K (F := F)).nCore 0) => bigSep Finset.univ fun s => tdT m d (at2 c s)) = _
  simp only [bigSep_sep']

abbrev FIN (d : Dev nD) : sProp 𝕄 := iprop(featW m d ∗ keysW m d ∗ levelW m d ∗ outW d (resultOf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hf, Hk, Hl, Ho⟩, Hts, -⟩, -⟩
  iapply ((K (F := F)).wp_run (D (F := F)) 𝒱 (EH := EH) (P := P m) κ d 0) $$ [Hst Hf Hk Hl Ho Hb Hts]
  isplitr; · iexact Hctx
  isplitl [Hst]; · iexact Hst
  isplitl [Hf Hk Ho]
  · iapply (st_of m d)
    isplitl [Hf]; · iexact Hf
    isplitl [Hk]; · iexact Hk
    iexact Ho
  iintro ⟨Hst, Hdn⟩
  ihave Hdn' := (Entails.of_eq (of_dn m d)) $$ Hdn
  icases Hdn' with ⟨Hf, Hk, Ho⟩
  imodintro
  isplitl [Hst]; · iexact Hst
  isplitr [Hb Hts]
  · isplitl [Hf]; · iexact Hf
    isplitl [Hk]; · iexact Hk
    isplitl [Hl] <;> iassumption
  isplitl [Hb] <;> iassumption

def fq (d : Dev nD) (s' : Phys nD τ sig (Elt F)) : Prop :=
  s'.mem.mem (featLoc d) = m (featLoc d) ∧ s'.mem.mem (keysLoc d) = m (keysLoc d) ∧ s'.mem.mem (levelLoc d) = m (levelLoc d) ∧ s'.mem.mem (outLoc d) = resultOf m d

/-- An array held whole is what the memory holds. -/
theorem agree (ℓ : Loc nD τ sig) (f : Buf (Elt F) ℓ) (R : sProp 𝕄) (s' : Phys nD τ sig (Elt F)) (φ : Prop) (h : s'.mem.mem ℓ = f → iprop(R ∗ SI s') ⊢ (⌜φ⌝ : sProp 𝕄)) :
    iprop(((ℓ ↦{fullShare} f) ∗ R) ∗ SI s') ⊢ (⌜φ⌝ : sProp 𝕄) := by
  iintro ⟨⟨Hf, HR⟩, HSI⟩
  ihave H := (persistent_entails_right (SI_pointsTo_agree (st := s') (ℓ := ℓ) (I := Finset.univ) (q := fullShare) (f := f))) $$ [HSI Hf]
  · isplitl [HSI] <;> iassumption
  icases H with ⟨%h1, HSI, -⟩
  iapply (h (funext fun i => h1 i (Finset.mem_univ i)))
  isplitl [HR] <;> iassumption

set_option maxRecDepth 16384 in
theorem hfin (d : Dev nD) (s' : Phys nD τ sig (Elt F)) : iprop(FIN m d ∗ SI s') ⊢ (⌜fq m d s'⌝ : sProp 𝕄) := by
  refine agree _ _ _ _ _ fun h1 => agree _ _ _ _ _ fun h2 => agree _ _ _ _ _ fun h3 => ?_
  iintro ⟨Ho, HSI⟩
  ihave H := (SI_pointsTo_agree (st := s') (ℓ := outLoc d) (I := Finset.univ) (q := fullShare) (f := resultOf m d)) $$ [HSI Ho]
  · isplitl [HSI] <;> iassumption
  icases H with %h4
  ipureintro; exact ⟨h1, h2, h3, funext fun i => h4 i (Finset.mem_univ i)⟩

/-! ## The program's run -/

def QC : PUnit × MemSt nD τ sig (Elt F) → Prop := fun r =>
  (∀ c : Dev nD, r.2.mem (featLoc c) = m (featLoc c) ∧ r.2.mem (keysLoc c) = m (keysLoc c) ∧ r.2.mem (levelLoc c) = m (levelLoc c) ∧ r.2.mem (outLoc c) = resultOf m c)
    ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Unpool

end
-- ==== Proof.RefValue.lean ====
/-
  What the reference computes. It counts, for each key, the row numbers below the key shifted right by two, and takes the
  table's row at that count. Where the keys lie in the drawn range and the row numbers are 0, 1, 2, …, the count is the
  shifted key itself, no index is out of range, and the result is the one the kernel leaves (`finalOut`).
-/
module

public import proofs.«01_k».proof.Proof.Geometry
public import proofs.«01_k».proof.Proof.Gen.ReferenceIdeal
public import proofs.«01_k».proof.Proof.Gen.ReferenceIdeal.Run
public import proofs.«01_k».proof.Proof.Gen.Pre_drawn
public import Idealize.ShloMosaic.Lib.IndicatorCount
public import Idealize.ShloMosaic.Lib.ReduceAll
public import Idealize.ShloMosaic.Lib.Quiescent

@[expose] public section

noncomputable section

namespace Cert.Proof.Unpool

open Cert.ReferenceIdeal Cert.ReferenceIdeal.Gen
open Idealize.ShloMosaic Idealize.ShloMosaic.TcCoe Idealize.ShloMosaic.ValueIdx
open Idealize.SL Idealize.SL.Sem

variable {F : FTy → Type} [FloatOps F]

/-! ## The reference's steps, named -/

/-- At `(i, j)`: one when row number `j` is below key `i` shifted right by two, zero when not. -/
def belowOf (keys : IVec S400000 32) (rows : IVec S100000 32) : IVec S400000x100000 32 :=
  extui 32 (cmpi .slt
    (broadcastInDim S400000x100000 ![0, 1] bcast_S1x100000_S400000x100000_0_1 (broadcastInDim S1x100000 ![1] bcast_S100000_S1x100000_1 rows))
    (broadcastInDim S400000x100000 ![0, 1] bcast_S400000x1_S400000x100000_0_1 (broadcastInDim S400000x1 ![0] bcast_S400000_S400000x1_0
      (Host.shrsi keys (broadcastInDim S400000 ![] bcast_S_S400000 (constantI S_ 32 2#32)))))) natLt_1_32

/-- How many row numbers are below each shifted key. -/
def countOf (keys : IVec S400000 32) (rows : IVec S100000 32) : IVec S400000 32 :=
  Host.reduce IntOp.addi (belowOf keys rows) (constantI S_ 32 0#32) reducesTo_S400000x100000_S400000_d1 h_S_

/-- The index with a negative one counted from the table's end, as a column. -/
def columnOf (n : IVec S400000 32) : IVec S400000x1 32 :=
  broadcastInDim S400000x1 ![0] bcast_S400000_S400000x1_0
    (select (cmpi .slt n (broadcastInDim S400000 ![] bcast_S_S400000 (constantI S_ 32 0#32)))
      (addi n (broadcastInDim S400000 ![] bcast_S_S400000 (constantI S_ 32 100000#32))) n)

/-- Which indices of a column name a row of the table. -/
def insideOf (col : IVec S400000x1 32) : IVec S400000 1 :=
  Host.reduce IntOp.andi
    (andi (cmpi .sge col (broadcastInDim S400000x1 ![] bcast_S_S400000x1 (constantI S_ 32 0#32)))
      (cmpi .sle col (broadcastInDim S400000x1 ![0, 1] bcast_S1x1_S400000x1_0_1
        (broadcastInDim S1x1 ![1] bcast_S1_S1x1_1 (constantI S1 32 99999#32)))))
    (constantI S_ 1 1#1) reducesTo_S400000x1_S400000_d1 h_S_

/-- The rows a column of indices takes, with a NaN row where an index is out of range. -/
def takenOf (feat : FVec F S100000x128 .f32) (col : IVec S400000x1 32) : FVec F S400000x128 .f32 :=
  select (broadcastInDim S400000x128 ![0] bcast_S400000_S400000x128_0 (insideOf col))
    (Host.gather gather_S100000x128_S400000x1_S400000x128_1_0_n_n_0_1_1128 feat col)
    (broadcastInDim S400000x128 ![] bcast_S_S400000x128 (constant S_ .f32 0x7FC00000#32))

theorem result_eq (m : (ℓ : Loc nD τ sig) → Buf (Elt F) ℓ) (c : Dev nD) :
    Cert.ReferenceIdeal.Value.res_main_v9 m c
      = takenOf (F := F) (m ((c.tc : Thread nD τ).loc main_arg0))
          (columnOf (countOf (m ((c.tc : Thread nD τ).loc main_arg1)) (m ((c.tc : Thread nD τ).loc main_arg2)))) := rfl

/-! ## Each step at an index -/

theorem belowOf_apply (keys : IVec S400000 32) (rows : IVec S100000 32) (x : S400000x100000.Idx) :
    belowOf keys rows x
      = (IntOp.cmpi .slt (rows (ix1 (n := 100000) (x 1))) (IntOp.shrsi .host (keys (ix1 (n := 400000) (x 0))) 2#32)).setWidth 32 := by
  have hr : broadcastInDim S400000x100000 ![0, 1] bcast_S1x100000_S400000x100000_0_1
      (broadcastInDim S1x100000 ![1] bcast_S100000_S1x100000_1 rows) x = rows (ix1 (n := 100000) (x 1)) :=
    congrArg rows (funext fun a => match a with | ⟨0, _⟩ => rfl)
  have hk : ∀ s : IVec S400000 32, broadcastInDim S400000x100000 ![0, 1] bcast_S400000x1_S400000x100000_0_1
      (broadcastInDim S400000x1 ![0] bcast_S400000_S400000x1_0 s) x = s (ix1 (n := 400000) (x 0)) :=
    fun s => congrArg s (funext fun a => match a with | ⟨0, _⟩ => rfl)
  show (IntOp.cmpi .slt _ _).setWidth 32 = _
  rw [hr, hk]
  rfl

theorem columnOf_apply (n : IVec S400000 32) (x : S400000x1.Idx) :
    columnOf n x = if IntOp.cmpi .slt (n (ix1 (n := 400000) (x 0))) 0#32 = 1#1 then n (ix1 (n := 400000) (x 0)) + 100000#32
      else n (ix1 (n := 400000) (x 0)) := by
  have hk : ∀ s : IVec S400000 32, broadcastInDim S400000x1 ![0] bcast_S400000_S400000x1_0 s x = s (ix1 (n := 400000) (x 0)) :=
    fun s => congrArg s (funext fun a => match a with | ⟨0, _⟩ => rfl)
  unfold columnOf
  rw [hk]
  rfl

/-- Of the numbers below `n`, exactly `v` are below `v`, for any `v` up to `n`. -/
theorem card_below (n v : Nat) (h : v ≤ n) : (Finset.univ.filter fun k : Fin n => k.val < v).card = v := by
  have e : (Finset.univ.filter fun k : Fin n => k.val < v) = Finset.univ.image (Fin.castLE h) := by
    ext k
    simp only [Finset.mem_filter, Finset.mem_univ, true_and, Finset.mem_image]
    exact ⟨fun hk => ⟨⟨k.val, hk⟩, Fin.ext rfl⟩, fun ⟨a, ha⟩ => by rw [← ha]; exact a.isLt⟩
  rw [e, Finset.card_image_of_injective _ (Fin.castLE_injective h), Finset.card_univ, Fintype.card_fin]

/-- The arithmetic shift of a word that is not negative. -/
theorem shifted_toNat (v : BitVec 32) (h : v.toNat < 2 ^ 31) : (IntOp.shrsi .host v 2#32).toNat = v.toNat / 4 := by
  have e : IntOp.shrsi .host v 2#32 = v.sshiftRight 2 := rfl
  have hm : v.msb = false := by rw [BitVec.msb_eq_decide]; simpa using h
  rw [e, BitVec.sshiftRight_eq_of_msb_false hm, BitVec.toNat_ushiftRight, Nat.shiftRight_eq_div_pow]

theorem toInt_small (v : BitVec 32) (h : v.toNat < 2 ^ 31) : v.toInt = v.toNat := by
  rw [BitVec.toInt_eq_toNat_cond, if_pos (by omega)]

/-- Sums of comparisons count: how many of the words 0, 1, …, 99999 lie below a word `v` of that range. -/
theorem sum_below (v : BitVec 32) (hv : v.toNat ≤ 100000) :
    (Finset.univ : Finset (Fin 100000)).fold IntOp.addi (0#32) (fun k => (IntOp.cmpi .slt (BitVec.ofNat 32 k.val) v).setWidth 32)
      = BitVec.ofNat 32 v.toNat := by
  rw [IndicatorCount.fold_addi_setWidth_eq_card]
  have e : (Finset.univ.filter fun k : Fin 100000 => IntOp.cmpi .slt (BitVec.ofNat 32 k.val) v = 1#1)
      = Finset.univ.filter fun k : Fin 100000 => k.val < v.toNat := by
    refine Finset.filter_congr fun k _ => ?_
    have hk := k.isLt
    have hkn : (BitVec.ofNat 32 k.val).toNat = k.val := by rw [BitVec.toNat_ofNat]; omega
    rw [IntOp.cmpi_slt, toInt_small _ (by omega), toInt_small _ (by omega), hkn]
    omega
  rw [e, card_below _ _ hv]

/-- Over the row numbers 0, 1, 2, …, the count is the shifted key. -/
theorem countOf_apply (keys : IVec S400000 32) (rows : IVec S100000 32)
    (hr : ∀ j : Fin 100000, rows (ix1 j) = BitVec.ofNat 32 j.val) (i : S400000.Idx) (hk : (keys i).toNat < 400000) :
    countOf keys rows i = BitVec.ofNat 32 ((keys i).toNat / 4) := by
  have hred : S400000x100000.Reduces [1] S400000 := by decide
  unfold countOf
  rw [Host.reduce_eq_fold_single IntOp.addi _ _ reducesTo_S400000x100000_S400000_d1 hred h_S_ i]
  have hs := shifted_toNat (keys i) (by omega)
  have hp : (belowOf keys rows ∘ hred.lift i)
      = fun k : Fin 100000 => (IntOp.cmpi .slt (BitVec.ofNat 32 k.val) (IntOp.shrsi .host (keys i) 2#32)).setWidth 32 := by
    funext k
    refine (belowOf_apply keys rows (hred.lift i k)).trans ?_
    have h0 : (ix1 (n := 400000) (hred.lift i k 0) : S400000.Idx) = i := by
      funext a; match a with | ⟨0, _⟩ => rfl
    have h1 : rows (ix1 (n := 100000) (hred.lift i k 1)) = BitVec.ofNat 32 k.val := hr k
    rw [h0, h1]
  rw [hp, ← hs]
  exact sum_below _ (by omega)

/-- The gather at `(i, j)`: column `j` of the table's row at the column's index `i`, cut off to the table. -/
theorem gathered_apply (feat : FVec F S100000x128 .f32) (col : IVec S400000x1 32) (y : S400000x128.Idx) :
    Host.gather gather_S100000x128_S400000x1_S400000x128_1_0_n_n_0_1_1128 feat col y
      = feat (ix2 (n0 := 100000) (n1 := 128)
          ⟨min (col (ix2 (n0 := 400000) (n1 := 1) (y 0) 0)).toInt.toNat 99999, by omega⟩ (y 1)) := by
  refine congrArg feat (funext fun a => Fin.ext ?_)
  show GatherDims.start _ y col a + GatherDims.batchCoord _ y a + GatherDims.offCoord _ y a = _
  rw [GatherDims.batchCoord_eq_zero _ _ _ List.not_mem_nil, Nat.add_zero]
  have ha : a = 0 ∨ a = 1 := match a with | ⟨0, _⟩ => .inl rfl | ⟨1, _⟩ => .inr rfl
  rcases ha with rfl | rfl
  · rw [GatherDims.offCoord_eq_zero _ _ _ (by decide), Nat.add_zero]
    unfold GatherDims.start
    rw [dif_pos (show (0 : Fin S100000x128.rank) ∈ gather_S100000x128_S400000x1_S400000x128_1_0_n_n_0_1_1128.startIndexMap from List.mem_singleton.mpr rfl)]
    have hs : gather_S100000x128_S400000x1_S400000x128_1_0_n_n_0_1_1128.siIdx y
        ⟨List.idxOf (0 : Fin S100000x128.rank) gather_S100000x128_S400000x1_S400000x128_1_0_n_n_0_1_1128.startIndexMap,
          List.idxOf_lt_length_iff.2 (List.mem_singleton.mpr rfl)⟩ = ix2 (n0 := 400000) (n1 := 1) (y 0) 0 := by
      funext b
      refine Fin.ext ?_
      match b with
      | ⟨0, _⟩ => rfl
      | ⟨1, _⟩ => rfl
    rw [hs]
    rfl
  · have h0 : gather_S100000x128_S400000x1_S400000x128_1_0_n_n_0_1_1128.start y col (1 : Fin S100000x128.rank) = 0 := by
      unfold GatherDims.start
      exact dif_neg (show ¬ (1 : Fin S100000x128.rank) ∈ gather_S100000x128_S400000x1_S400000x128_1_0_n_n_0_1_1128.startIndexMap by decide)
    refine (congrArg (· + _) h0).trans ((Nat.zero_add _).trans ?_)
    rfl

/-- Where every index of a column names a row, none is out of range. -/
theorem insideOf_apply (col : IVec S400000x1 32) (h : ∀ x, (col x).toNat < 100000) (i : S400000.Idx) : insideOf col i = 1#1 := by
  refine Host.reduce_andi_one _ _ _ _ _ rfl fun x => ?_
  have hx := h x
  have hi := toInt_small (col x) (by omega)
  refine IntOp.andi_eq_one.2 ⟨IntOp.cmpi_sge.2 ?_, IntOp.cmpi_sle.2 ?_⟩
  · show (0#32 : BitVec 32).toInt ≤ (col x).toInt
    rw [hi, show (0#32 : BitVec 32).toInt = 0 from rfl]; omega
  · show (col x).toInt ≤ (99999#32 : BitVec 32).toInt
    rw [hi, show (99999#32 : BitVec 32).toInt = 99999 from rfl]; omega

/-- A row whose index is in range is the gathered one. -/
theorem takenOf_inside (feat : FVec F S100000x128 .f32) (col : IVec S400000x1 32) (y : S400000x128.Idx)
    (h : insideOf col (ix1 (n := 400000) (y 0)) = 1#1) :
    takenOf (F := F) feat col y = Host.gather gather_S100000x128_S400000x1_S400000x128_1_0_n_n_0_1_1128 feat col y := by
  have hb : ∀ s : IVec S400000 1, broadcastInDim S400000x128 ![0] bcast_S400000_S400000x128_0 s y = s (ix1 (n := 400000) (y 0)) :=
    fun s => congrArg s (funext fun a => match a with | ⟨0, _⟩ => rfl)
  unfold takenOf select
  rw [hb, h]
  exact if_pos rfl

/-! ## The value -/

/-- A key of the drawn range names the row at the key divided by four. -/
theorem rowOf_val (v : BitVec 32) (h : v.toNat < 400000) : (rowOf v).val = v.toNat / 4 := by
  have hs : (v >>> (2#32)).toNat = v.toNat / 4 := by
    show (v >>> (2 : Nat)).toNat = _
    rw [BitVec.toNat_ushiftRight, Nat.shiftRight_eq_div_pow]
  show (laneW v).toNat = _
  rw [laneW_eq]
  split
  · exact hs
  · next hn =>
    rw [BitVec.slt_iff_toInt_lt, toInt_small _ (by omega), hs, show (99999#32 : BitVec 32).toInt = 99999 from rfl] at hn
    show 99999 = _
    omega

/-- Over drawn keys and the row numbers 0, 1, 2, …, the reference's result is the kernel's. -/
theorem taken_eq (feat : FVec F S100000x128 .f32) (keys : IVec S400000 32) (rows : IVec S100000 32)
    (hk : ∀ i, (keys i).toNat < 400000) (hr : ∀ j : Fin 100000, rows (ix1 j) = BitVec.ofNat 32 j.val) :
    takenOf (F := F) feat (columnOf (countOf keys rows)) = finalOut (F := F) feat keys := by
  have hc : ∀ x : S400000x1.Idx, columnOf (countOf keys rows) x = BitVec.ofNat 32 ((keys (ix1 (n := 400000) (x 0))).toNat / 4) := by
    intro x
    have hx := hk (ix1 (n := 400000) (x 0))
    rw [columnOf_apply, countOf_apply keys rows hr _ hx, if_neg]
    rw [IntOp.cmpi_slt, toInt_small _ (by rw [BitVec.toNat_ofNat]; omega), show (0#32 : BitVec 32).toInt = 0 from rfl]
    omega
  have hn : ∀ x : S400000x1.Idx, (columnOf (countOf keys rows) x).toNat = (keys (ix1 (n := 400000) (x 0))).toNat / 4 := by
    intro x
    have hx := hk (ix1 (n := 400000) (x 0))
    rw [hc, BitVec.toNat_ofNat]; omega
  have hin : ∀ x : S400000x1.Idx, (columnOf (countOf keys rows) x).toNat < 100000 := by
    intro x
    have hx := hk (ix1 (n := 400000) (x 0))
    rw [hn]; omega
  funext y
  have hy := hk (ix1 (n := 400000) (y 0))
  refine (takenOf_inside feat _ y (insideOf_apply _ hin _)).trans ((gathered_apply feat _ y).trans ?_)
  refine congrArg feat ?_
  refine congrArg (fun r => ix2 (n0 := 100000) (n1 := 128) r (y 1)) (Fin.ext ?_)
  rw [rowOf_val _ hy]
  have hv := hn (ix2 (n0 := 400000) (n1 := 1) (y 0) 0)
  have hl := hin (ix2 (n0 := 400000) (n1 := 1) (y 0) 0)
  show min (columnOf (countOf keys rows) (ix2 (n0 := 400000) (n1 := 1) (y 0) 0)).toInt.toNat 99999 = _
  rw [toInt_small _ (by omega), Int.toNat_natCast]
  rw [hv] at hl ⊢
  exact Nat.min_eq_left (by omega)

/-! ## The precondition, read back -/

theorem drawn_reads (feat : FVec F S100000x128 .f32) (keys : IVec S400000 32) (rows : IVec S100000 32)
    (h : Cert.Pre_drawn.fn (F := F) feat keys rows = fun _ => 1#1) :
    (∀ i, (keys i).toNat < 400000) ∧ ∀ j : Fin 100000, rows (ix1 j) = BitVec.ofNat 32 j.val := by
  haveI : Subsingleton Cert.Pre_drawn.S_.Idx := ⟨fun a b => funext fun i => i.elim0⟩
  have h' := congrFun h ix0
  unfold Cert.Pre_drawn.fn at h'
  obtain ⟨hk, hr⟩ := IntOp.andi_eq_one.1 h'
  constructor
  · intro i
    obtain ⟨h0, h1⟩ := IntOp.andi_eq_one.1 (Host.reduce_andi_all _ _ _ _ _ hk i)
    have h0' : (0#32 : BitVec 32).toInt ≤ (keys i).toInt := IntOp.cmpi_sge.1 h0
    have h1' : (keys i).toInt < (400000#32 : BitVec 32).toInt := IntOp.cmpi_slt.1 h1
    rw [show (0#32 : BitVec 32).toInt = 0 from rfl] at h0'
    rw [show (400000#32 : BitVec 32).toInt = 400000 from rfl] at h1'
    rw [BitVec.toInt_eq_toNat_cond] at h0' h1'
    have := (keys i).isLt
    split at h0' <;> omega
  · intro j
    exact IntOp.cmpi_eq.1 (Host.reduce_andi_all _ _ _ _ _ hr (ix1 j))

/-! ## The run -/

/-- The reference's run: its result is the table's rows at the counts, its arguments are kept, and it has no counters. -/
theorem run_reference (m : (ℓ : Loc nD τ sig) → Buf (Elt F) ℓ) (ρ : Dev nD → PrngReg) :
    θ_run (Cert.ReferenceIdeal.defs (F := F)) (onTc (τ := τ) (main (F := F))) ⟨m, fun _ => 0, ρ⟩ fun r => (∀ c : Dev nD,
      r.2.mem ((c.tc : Thread nD τ).loc main_v9)
          = takenOf (F := F) (m ((c.tc : Thread nD τ).loc main_arg0))
              (columnOf (countOf (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run _ _ _).mono (fun r h => ⟨fun c => ⟨(h c).1.trans (result_eq m c), (h c).2⟩, sem_eq_zero_of_no_sems (by decide) r.2⟩)
    (Cert.ReferenceIdeal.Value.run m ρ)

end Cert.Proof.Unpool

end
-- ==== Proof.lean ====
module

public import proofs.«01_k».proof.Proof.Gen.ReferenceIdeal.Run
public import proofs.«01_k».proof.Defs
public import proofs.«01_k».proof.Proof.Launch
public import proofs.«01_k».proof.Proof.RefValue
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_drawn
public import Idealize.ShloMosaic.Adequacy
public import Idealize.ShloMosaic.Init

@[expose] public section

noncomputable section

namespace Cert.Proof

open Idealize.ShloMosaic Idealize.SL.Sem Cert.Kernel

/-- The kernel as printed and the kernel read at the ideal values have one text: its run is `Unpool.run_main` at words. -/
theorem frame_kernel : Cert.quiescent_Kernel := fun m ρ _ =>
  (θ_run Cert.KernelIdeal.defs _ _).mono (fun _ h => ⟨fun c => ⟨(h.1 c).1, (h.1 c).2.1, (h.1 c).2.2.1⟩, h.2⟩)
    (Unpool.run_main (F := Bits) m ρ)

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Unpool.run_main (F := Ideal) m ρ)

theorem frame_reference : Cert.quiescent_ReferenceIdeal := fun m ρ _ =>
  (θ_run Cert.ReferenceIdeal.defs _ _).mono (fun _ h => ⟨fun c => (h.1 c).2, h.2⟩) (Unpool.run_reference (F := Ideal) m ρ)

/-- On drawn arguments the kernel and the reference end with the same array. -/
theorem values_equal : Cert.algebraic_KernelIdeal_ReferenceIdeal_pre_drawn := fun m ρ m' ρ' hpre hargs =>
  ⟨fun c => Unpool.resultOf (F := Ideal) m c,
    (θ_run Cert.KernelIdeal.defs _ _).mono (fun _ h c => ⟨(h.1 c).2.2.2, (h.1 c).1, (h.1 c).2.1, (h.1 c).2.2.1⟩)
      (Unpool.run_main (F := Ideal) m ρ),
    (θ_run Cert.ReferenceIdeal.defs _ _).mono (fun _ h c => ⟨(h.1 c).1.trans (by
        obtain ⟨hk, hr⟩ := Unpool.drawn_reads _ _ _ (hpre c)
        rw [(hargs c).1, (hargs c).2.1, (hargs c).2.2]
        exact Unpool.taken_eq _ _ _ hk hr), (h.1 c).2⟩)
      (Unpool.run_reference (F := Ideal) m' ρ')⟩

theorem claim : Cert.Claim := ⟨Cert.Kernel.Gen.facts, Cert.KernelIdeal.Gen.facts, Cert.ReferenceIdeal.Gen.facts, Cert.Pre_drawn.Gen.facts,
  frame_kernel, frame_ideal, fun m g _ => frame_ideal m g trivial, frame_reference, fun m g _ => frame_reference m g trivial, trivial, values_equal⟩

end Cert.Proof

end
